-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_segments_zero_biases [hPre_sorted_segments_zero_biases : Cert.Pre_sorted_segments_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments_zero_biases [hPre_sorted_segments_zero_biases : Cert.Pre_sorted_segments_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_sorted_segments_zero_biases [hKernelIdeal : Cert.KernelIdeal.Facts] [hPre_sorted_segments_zero_biases : Cert.Pre_sorted_segments_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_segments_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_sorted_segments_zero_biases [hReferenceIdeal : Cert.ReferenceIdeal.Facts] [hPre_sorted_segments_zero_biases : Cert.Pre_sorted_segments_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_sorted_segments_zero_biases [hKernelIdeal : Cert.KernelIdeal.Facts] [hReferenceIdeal : Cert.ReferenceIdeal.Facts] [hPre_sorted_segments_zero_biases : Cert.Pre_sorted_segments_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_segments_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_sorted_segments_zero_biases : Cert.Pre_sorted_segments_zero_biases.Facts),
    quiescent_Kernel (hKernel := hKernel)
    ∧ quiescent_KernelIdeal (hKernelIdeal := hKernelIdeal)
    ∧ quiescent_KernelIdeal_pre_sorted_segments_zero_biases (hKernelIdeal := hKernelIdeal) (hPre_sorted_segments_zero_biases := hPre_sorted_segments_zero_biases)
    ∧ quiescent_ReferenceIdeal (hReferenceIdeal := hReferenceIdeal)
    ∧ quiescent_ReferenceIdeal_pre_sorted_segments_zero_biases (hReferenceIdeal := hReferenceIdeal) (hPre_sorted_segments_zero_biases := hPre_sorted_segments_zero_biases)
    ∧ preserves_Kernel_KernelIdeal
    ∧ algebraic_KernelIdeal_ReferenceIdeal_pre_sorted_segments_zero_biases (hKernelIdeal := hKernelIdeal) (hReferenceIdeal := hReferenceIdeal) (hPre_sorted_segments_zero_biases := hPre_sorted_segments_zero_biases)
-- ==== Pre_sorted_segments_zero_biases.lean ====
abbrev S256x128 : Shape := ⟨2, ![256, 128]⟩
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S99999 : Shape := ⟨1, ![99999]⟩
abbrev S_ : Shape := ⟨0, ![]⟩

class Facts : Prop where
  slices_S100000_S1_0 : S100000.Slices ![0] S1
  slices_S100000_S99999_0 : S100000.Slices ![0] S99999
  concatenates_S1_S99999_S100000_d0 : Shape.Concatenates [S1, S99999] S100000 0
  bcast_S_S100000 : S_.BroadcastsInDim S100000 (![] : Fin 0 → Fin S100000.rank)
  bcast_S_S1 : S_.BroadcastsInDim S1 (![] : Fin 0 → Fin S1.rank)
  bcast_S1_S100000_0 : S1.BroadcastsInDim S100000 (![0] : Fin 1 → Fin S100000.rank)
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S256x128 .f32) (main_arg1 : FVec F S100000x128 .f32) (main_arg2 : IVec S100000 32) (main_arg3 : FVec F S128x1 .f32) (main_arg4 : FVec F S1 .f32) (main_arg5 : FVec F S128x128 .f32) (main_arg6 : FVec F S128 .f32) (main_arg7 : FVec F S256x128 .f32) (main_arg8 : FVec F S128 .f32) : IVec S100000 1 :=
  let main_v0 : IVec S1 32 := (extractStridedSlice S1 ![0] · slices_S100000_S1_0) main_arg2
  let main_v1 : IVec S99999 32 := (extractStridedSlice S99999 ![0] · slices_S100000_S99999_0) main_arg2
  let main_v2 : IVec S100000 32 := (fun a b => concatenate S100000 0 [⟨S1, a⟩, ⟨S99999, b⟩] concatenates_S1_S99999_S100000_d0) main_v0 main_v1
  let main_c : IVec S_ 32 := constantI S_ 32 0#32
  let main_v3 : IVec S100000 32 := broadcastInDim S100000 ![] bcast_S_S100000 main_c
  let main_v4 : IVec S100000 1 := cmpi .sge main_arg2 main_v3
  let main_c_0 : IVec S_ 32 := constantI S_ 32 256#32
  let main_v5 : IVec S100000 32 := broadcastInDim S100000 ![] bcast_S_S100000 main_c_0
  let main_v6 : IVec S100000 1 := cmpi .slt main_arg2 main_v5
  let main_v7 : IVec S100000 1 := andi main_v4 main_v6
  let main_v8 : IVec S100000 1 := cmpi .sle main_v2 main_arg2
  let main_v9 : IVec S100000 1 := andi main_v7 main_v8
  let main_cst : FVec F S_ .f32 := constant S_ .f32 0x00000000#32
  let main_v10 : FVec F S1 .f32 := broadcastInDim S1 ![] bcast_S_S1 main_cst
  let main_v11 : IVec S1 1 := cmpf .oeq main_arg4 main_v10
  let main_v12 : IVec S100000 1 := broadcastInDim S100000 ![0] bcast_S1_S100000_0 main_v11
  let main_v13 : IVec S100000 1 := andi main_v9 main_v12
  let main_cst_1 : FVec F S_ .f32 := constant S_ .f32 0x00000000#32
  let main_v14 : FVec F S128 .f32 := broadcastInDim S128 ![] bcast_S_S128 main_cst_1
  let main_v15 : IVec S128 1 := cmpf .oeq main_arg6 main_v14
  let main_c_2 : IVec S_ 1 := constantI S_ 1 1#1
  let main_v16 : IVec S_ 1 := (fun x v => Host.reduce IntOp.andi x v reducesTo_S128_S_d0 h_S_) main_v15 main_c_2
  let main_v17 : IVec S100000 1 := broadcastInDim S100000 ![] bcast_S_S100000 main_v16
  let main_v18 : IVec S100000 1 := andi main_v13 main_v17
  main_v18
-- ==== Kernel.lean ====
abbrev S256x128 : Shape := ⟨2, ![256, 128]⟩
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S5x1x20000 : Shape := ⟨3, ![5, 1, 20000]⟩
abbrev S5 : Shape := ⟨1, ![5]⟩
abbrev S1x128 : Shape := ⟨2, ![1, 128]⟩
abbrev S20000x128 : Shape := ⟨2, ![20000, 128]⟩
abbrev S1x1x20000 : Shape := ⟨3, ![1, 1, 20000]⟩
abbrev S256x1 : Shape := ⟨2, ![256, 1]⟩
abbrev S1x20000 : Shape := ⟨2, ![1, 20000]⟩
abbrev S64x20000 : Shape := ⟨2, ![64, 20000]⟩
abbrev S256x64 : Shape := ⟨2, ![256, 64]⟩
abbrev S64 : Shape := ⟨1, ![64]⟩
abbrev S64x1 : Shape := ⟨2, ![64, 1]⟩
abbrev S64x128 : Shape := ⟨2, ![64, 128]⟩

abbrev nBuf : Space → Nat
  | .hbm => 15
  | .vmem => 12
  | .smem => 2
  | _ => 0

abbrev bufTy : (tb : Table) → Fin (tcTables nBuf tb) → BufTy
  | .hbm, ⟨0, _⟩ => ⟨S256x128, .f32⟩
  | .hbm, ⟨1, _⟩ => ⟨S100000x128, .f32⟩
  | .hbm, ⟨2, _⟩ => ⟨S100000, .i32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S5x1x20000, .i32⟩
  | .hbm, ⟨10, _⟩ => ⟨S5, .i32⟩
  | .hbm, ⟨11, _⟩ => ⟨S128x1, .bf16⟩
  | .hbm, ⟨12, _⟩ => ⟨S128x128, .bf16⟩
  | .hbm, ⟨13, _⟩ => ⟨S1x128, .f32⟩
  | .hbm, ⟨14, _⟩ => ⟨S256x128, .f32⟩
  | .local _ .vmem, ⟨0, _⟩ => ⟨S20000x128, .f32⟩
  | .local _ .vmem, ⟨1, _⟩ => ⟨S20000x128, .f32⟩
  | .local _ .vmem, ⟨2, _⟩ => ⟨S1x1x20000, .i32⟩
  | .local _ .vmem, ⟨3, _⟩ => ⟨S1x1x20000, .i32⟩
  | .local _ .vmem, ⟨4, _⟩ => ⟨S128x1, .bf16⟩
  | .local _ .vmem, ⟨5, _⟩ => ⟨S128x128, .bf16⟩
  | .local _ .vmem, ⟨6, _⟩ => ⟨S256x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x1, .f32⟩
  | .local _ .vmem, ⟨11, _⟩ => ⟨S256x128, .f32⟩
  | .local _ .smem, ⟨0, _⟩ => ⟨S5, .i32⟩
  | .local _ .smem, ⟨1, _⟩ => ⟨S5, .i32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v1 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![5], ![false]⟩

abbrev pre0 : Pipeline.Prefetch sig := ⟨2, ![main_v1.idx, main_v3.idx], fun | 0 => main_v1.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v18 : Index := Scalar.indexCast arg0
  ![v18.toNat]
def k0_cond5 (i : grid0.Coords) : BitVec 1 :=
  let arg0 : BitVec 32 := BitVec.ofNat 32 (i 0).val
  let c4_i32 : BitVec 32 := 4#32
  let v70 : BitVec 1 := Scalar.cmpi .eq arg0 c4_i32
  let v71 : BitVec 32 := Scalar.extui v70
  let c0_i32_31 : BitVec 32 := 0#32
  let v72 : BitVec 1 := Scalar.cmpi .ne v71 c0_i32_31
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x20000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S256x128 : Shape := ⟨2, ![256, 128]⟩
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S100000x1 : Shape := ⟨2, ![100000, 1]⟩
abbrev S1x1 : Shape := ⟨2, ![1, 1]⟩
abbrev S1x128 : Shape := ⟨2, ![1, 128]⟩
abbrev S_ : Shape := ⟨0, ![]⟩
abbrev S256 : Shape := ⟨1, ![256]⟩
abbrev S256x256 : Shape := ⟨2, ![256, 256]⟩

abbrev nBuf : Space → Nat
  | .hbm => 65
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S100000x128, .f32⟩
  | .hbm, ⟨2, _⟩ => ⟨S100000, .i32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S100000x1, .f32⟩
  | .hbm, ⟨10, _⟩ => ⟨S1x1, .f32⟩
  | .hbm, ⟨11, _⟩ => ⟨S100000x1, .f32⟩
  | .hbm, ⟨12, _⟩ => ⟨S100000x1, .f32⟩
  | .hbm, ⟨13, _⟩ => ⟨S100000, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .f32⟩
  | .hbm, ⟨19, _⟩ => ⟨S_, .f32⟩
  | .hbm, ⟨20, _⟩ => ⟨S100000x128, .f32⟩
  | .hbm, ⟨21, _⟩ => ⟨S100000x128, .i1⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S100000, .f32⟩
  | .hbm, ⟨27, _⟩ => ⟨S_, .f32⟩
  | .hbm, ⟨28, _⟩ => ⟨S256, .f32⟩
  | .hbm, ⟨29, _⟩ => ⟨S100000x1, .i32⟩
  | .hbm, ⟨30, _⟩ => ⟨S256, .f32⟩
  | .hbm, ⟨31, _⟩ => ⟨S_, .i32⟩
  | .hbm, ⟨32, _⟩ => ⟨S100000, .i32⟩
  | .hbm, ⟨33, _⟩ => ⟨S100000, .i1⟩
  | .hbm, ⟨34, _⟩ => ⟨S_, .i32⟩
  | .hbm, ⟨35, _⟩ => ⟨S100000, .i32⟩
  | .hbm, ⟨36, _⟩ => ⟨S100000, .i32⟩
  | .hbm, ⟨37, _⟩ => ⟨S100000, .i32⟩
  | .hbm, ⟨38, _⟩ => ⟨S100000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S256x128, .f32⟩
  | .hbm, ⟨49, _⟩ => ⟨S100000x1, .i32⟩
  | .hbm, ⟨50, _⟩ => ⟨S256x128, .f32⟩
  | .hbm, ⟨51, _⟩ => ⟨S256x256, .f32⟩
  | .hbm, ⟨52, _⟩ => ⟨S256x128, .f32⟩
  | .hbm, ⟨53, _⟩ => ⟨S1x128, .f32⟩
  | .hbm, ⟨54, _⟩ => ⟨S256x128, .f32⟩
  | .hbm, ⟨55, _⟩ => ⟨S256x128, .f32⟩
  | .hbm, ⟨56, _⟩ => ⟨S_, .f32⟩
  | .hbm, ⟨57, _⟩ => ⟨S_, .f32⟩
  | .hbm, ⟨58, _⟩ => ⟨S256x128, .f32⟩
  | .hbm, ⟨59, _⟩ => ⟨S256x128, .i1⟩
  | .hbm, ⟨60, _⟩ => ⟨S_, .f32⟩
  | .hbm, ⟨61, _⟩ => ⟨S256x128, .f32⟩
  | .hbm, ⟨62, _⟩ => ⟨S256x128, .f32⟩
  | .hbm, ⟨63, _⟩ => ⟨S256x128, .f32⟩
  | .hbm, ⟨64, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v35 : Ref sig .tc := ⟨.hbm, 63, rfl⟩
abbrev main_v36 : Ref sig .tc := ⟨.hbm, 64, rfl⟩

abbrev nD : Nat := 1
abbrev τ : Topo := Topo.v7x

variable {F : FTy → Type} [FloatOps F]
-- ==== Proof.RunIdeal.Body.lean ====
/-
  The kernel's body at one grid point, as a triple over whole memrefs. The body's five conditionals are each met once:
  the two scratch buffers (the running segment sums of the weights, `d`, and of the weighted rows, `S`) go through
  `stepD` / `stepS`, whose text keeps every `if`, and the result block through `outVal`.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.VecWindow
public import Idealize.ShloMosaic.Lib.WholeRead
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The programs the body is made of. -/
abbrev BodyProg (F : FTy → Type) [FloatOps F] := Prog (TpuEff nD τ sig (Elt F) Λ₀ .tc) PUnit

/-! ## One window of segments: both scratch buffers updated -/

/-- The memory operations of one window: the weighted rows' sums are loaded and stored back through `fS`, then the
    weights' sums through `fD` (each load printed twice). -/
def winProg (arg11 : Memref sig .tc .vmem S256x1 .f32) (arg12 : Memref sig .tc .vmem S256x128 .f32)
    (fS : Vec F S256x128 .f32 → Vec F S256x128 .f32) (fD : Vec F S256x1 .f32 → Vec F S256x1 .f32) : BodyProg F := do
  let v93 : Vec F S256x128 .f32 ← Prog.lift (.load arg12 (Rect.unit (s := S256x128) ![0, 0] S256x128.size inb_S256x128_S256x128_0_0).toLoadRect (View.loadsAt_vmem h_S256x128))
  let v96 : Vec F S256x128 .f32 ← Prog.lift (.load arg12 (Rect.unit (s := S256x128) ![0, 0] S256x128.size inb_S256x128_S256x128_0_0).toLoadRect (View.loadsAt_vmem h_S256x128))
  Prog.lift (.store arg12 (Rect.unit (s := S256x128) ![0, 0] S256x128.size inb_S256x128_S256x128_0_0) (fS v93) Finset.univ (View.stores_vmem_bits_univ h_S256x128 rfl) (.inl rfl))
  let v99 : Vec F S256x1 .f32 ← Prog.lift (.load arg11 (Rect.unit (s := S256x1) ![0, 0] S256x1.size inb_S256x1_S256x1_0_0).toLoadRect (View.loadsAt_vmem h_S256x1))
  let v102 : Vec F S256x1 .f32 ← Prog.lift (.load arg11 (Rect.unit (s := S256x1) ![0, 0] S256x1.size inb_S256x1_S256x1_0_0).toLoadRect (View.loadsAt_vmem h_S256x1))
  Prog.lift (.store arg11 (Rect.unit (s := S256x1) ![0, 0] S256x1.size inb_S256x1_S256x1_0_0) (fD v99) Finset.univ (View.stores_vmem_bits_univ h_S256x1 rfl) (.inl rfl))
  pure ⟨⟩

variable (c : Dev nD)

omit [FloatOps F] in
/-- A whole memref read through the rectangle of all of it gives the contents. -/
theorem readAt_all {s : Shape} {e : EltTy} {M : Memref sig .tc .vmem s e} (h : M.IsWhole) (X : Vec F s e)
    {off : Fin s.rank → ℕ} (inb : ∀ a, off a + s.size a ≤ s.size a) :
    M.view.readAt (Elt F) (Rect.unit (s := s) off s.size inb).toLoadRect (h.unread X) = X := by
  rw [View.readAt_full, h.read_unread]

/-- One window run on the two scratch memrefs. -/
theorem win_run {arg11 : Memref sig .tc .vmem S256x1 .f32} (h11 : arg11.IsWhole)
    {arg12 : Memref sig .tc .vmem S256x128 .f32} (h12 : arg12.IsWhole)
    (fS : Vec F S256x128 .f32 → Vec F S256x128 .f32) (fD : Vec F S256x1 .f32 → Vec F S256x1 .f32)
    (d : Vec F S256x1 .f32) (S : Vec F S256x128 .f32) (E : Set ℕ) (K : PUnit → sProp 𝕄) :
    iprop(owns (c : Thread nD τ) arg11 fullShare d ∗ owns (c : Thread nD τ) arg12 fullShare S
        ∗ (iprop(owns (c : Thread nD τ) arg11 fullShare (fD d) ∗ owns (c : Thread nD τ) arg12 fullShare (fS S)) -∗ K ⟨⟩))
      ⊢ wp frame (wpE (defs₀ (F := F)) Variants.none c none) E (winProg arg11 arg12 fS fD) K := by
  unfold winProg owns
  iintro ⟨⟨%f0, %hf0, H0⟩, ⟨%f1, %hf1, H1⟩, Hk⟩
  obtain rfl := h11.eq_unread hf0; obtain rfl := h12.eq_unread hf1
  sl_exec
  sl_step
  iapply Hk
  isplitl [H0]
  · iexists _; isplitr
    swap; · iexact H0
    ipureintro
    rw [View.read_writes_full, readAt_all h11]
  · iexists _; isplitr
    swap; · iexact H1
    ipureintro
    rw [View.read_writes_full, readAt_all h12]

/-- A window run only when the block's span of segments reaches it. -/
theorem win_if {arg11 : Memref sig .tc .vmem S256x1 .f32} (h11 : arg11.IsWhole)
    {arg12 : Memref sig .tc .vmem S256x128 .f32} (h12 : arg12.IsWhole) (q : Prop) [Decidable q]
    (fS : Vec F S256x128 .f32 → Vec F S256x128 .f32) (fD : Vec F S256x1 .f32 → Vec F S256x1 .f32)
    (d : Vec F S256x1 .f32) (S : Vec F S256x128 .f32) (E : Set ℕ) (K : PUnit → sProp 𝕄) :
    iprop(owns (c : Thread nD τ) arg11 fullShare d ∗ owns (c : Thread nD τ) arg12 fullShare S
        ∗ (iprop(owns (c : Thread nD τ) arg11 fullShare (if q then fD d else d)
            ∗ owns (c : Thread nD τ) arg12 fullShare (if q then fS S else S)) -∗ K ⟨⟩))
      ⊢ wp frame (wpE (defs₀ (F := F)) Variants.none c none) E (if q then winProg arg11 arg12 fS fD else pure ⟨⟩) K := by
  by_cases hq : q
  · simp only [if_pos hq]
    exact win_run c h11 h12 fS fD d S E K
  · simp only [if_neg hq]
    iintro ⟨H0, H1, Hk⟩
    sl_step
    iapply Hk
    isplitl [H0]; · iexact H0
    iexact H1

/-! ## The first point zeroes both scratch buffers -/

/-- The zeroing of the scratch buffers. -/
def initProg (arg11 : Memref sig .tc .vmem S256x1 .f32) (arg12 : Memref sig .tc .vmem S256x128 .f32) : BodyProg F := do
  let v74 : Vec F S256x1 .f32 ← Prog.lift (.load arg11 (Rect.unit (s := S256x1) ![0, 0] S256x1.size inb_S256x1_S256x1_0_0).toLoadRect (View.loadsAt_vmem h_S256x1))
  Prog.lift (.store arg11 (Rect.unit (s := S256x1) ![0, 0] S256x1.size inb_S256x1_S256x1_0_0) (k0_pay1 (F := F)) Finset.univ (View.stores_vmem_bits_univ h_S256x1 rfl) (.inl rfl))
  let v78 : Vec F S256x128 .f32 ← Prog.lift (.load arg12 (Rect.unit (s := S256x128) ![0, 0] S256x128.size inb_S256x128_S256x128_0_0).toLoadRect (View.loadsAt_vmem h_S256x128))
  Prog.lift (.store arg12 (Rect.unit (s := S256x128) ![0, 0] S256x128.size inb_S256x128_S256x128_0_0) (k0_pay2 (F := F)) Finset.univ (View.stores_vmem_bits_univ h_S256x128 rfl) (.inl rfl))
  pure ⟨⟩

/-- The zeroing, run only where its condition holds. -/
theorem init_if {arg11 : Memref sig .tc .vmem S256x1 .f32} (h11 : arg11.IsWhole)
    {arg12 : Memref sig .tc .vmem S256x128 .f32} (h12 : arg12.IsWhole) (q : Prop) [Decidable q]
    (d : Vec F S256x1 .f32) (S : Vec F S256x128 .f32) (E : Set ℕ) (K : PUnit → sProp 𝕄) :
    iprop(owns (c : Thread nD τ) arg11 fullShare d ∗ owns (c : Thread nD τ) arg12 fullShare S
        ∗ (iprop(owns (c : Thread nD τ) arg11 fullShare (if q then k0_pay1 (F := F) else d)
            ∗ owns (c : Thread nD τ) arg12 fullShare (if q then k0_pay2 (F := F) else S)) -∗ K ⟨⟩))
      ⊢ wp frame (wpE (defs₀ (F := F)) Variants.none c none) E (if q then initProg arg11 arg12 else pure ⟨⟩) K := by
  by_cases hq : q
  · simp only [if_pos hq]
    unfold initProg owns
    iintro ⟨⟨%f0, %hf0, H0⟩, ⟨%f1, %hf1, H1⟩, Hk⟩
    sl_exec
    sl_step
    iapply Hk
    isplitl [H0]
    · iexists _; isplitr
      swap; · iexact H0
      ipureintro
      rw [View.read_writes_full]
    · iexists _; isplitr
      swap; · iexact H1
      ipureintro
      rw [View.read_writes_full]
  · simp only [if_neg hq]
    iintro ⟨H0, H1, Hk⟩
    sl_step
    iapply Hk
    isplitl [H0]; · iexact H0
    iexact H1

/-! ## The last point stores the result block -/

/-- Loading both scratch buffers, the transform's two halves, the global rows and the bias, and storing the result. -/
def outProg (arg7 : Memref sig .tc .vmem S256x128 .f32) (arg8 : Memref sig .tc .vmem S1x128 .f32) (arg9 : Memref sig .tc .vmem S256x128 .f32)
    (arg10 : Memref sig .tc .vmem S256x128 .f32) (arg11 : Memref sig .tc .vmem S256x1 .f32) (arg12 : Memref sig .tc .vmem S256x128 .f32) : BodyProg F := do
  let v73 : Vec F S256x128 .f32 ← Prog.lift (.load arg12 (Rect.unit (s := S256x128) ![0, 0] S256x128.size inb_S256x128_S256x128_0_0).toLoadRect (View.loadsAt_vmem h_S256x128))
  let v74 : Vec F S256x1 .f32 ← Prog.lift (.load arg11 (Rect.unit (s := S256x1) ![0, 0] S256x1.size inb_S256x1_S256x1_0_0).toLoadRect (View.loadsAt_vmem h_S256x1))
  let v79 : Vec F S128x128 .f32 ← Prog.lift (.load arg7 (Rect.unit (s := S256x128) ![0, 0] S128x128.size inb_S256x128_S128x128_0_0).toLoadRect (View.loadsAt_vmem h_S128x128))
  let v81 : Vec F S256x128 .f32 ← Prog.lift (.load arg9 (Rect.unit (s := S256x128) ![0, 0] S256x128.size inb_S256x128_S256x128_0_0).toLoadRect (View.loadsAt_vmem h_S256x128))
  let v82 : Vec F S128x128 .f32 ← Prog.lift (.load arg7 (Rect.unit (s := S256x128) ![128, 0] S128x128.size inb_S256x128_S128x128_128_0).toLoadRect (View.loadsAt_vmem h_S128x128))
  let v85 : Vec F S1x128 .f32 ← Prog.lift (.load arg8 (Rect.unit (s := S1x128) ![0, 0] S1x128.size inb_S1x128_S1x128_0_0).toLoadRect (View.loadsAt_vmem h_S1x128))
  let v92 : Vec F S256x128 .f32 ← Prog.lift (.load arg9 (Rect.unit (s := S256x128) ![0, 0] S256x128.size inb_S256x128_S256x128_0_0).toLoadRect (View.loadsAt_vmem h_S256x128))
  let v94 : Vec F S256x128 .f32 ← Prog.lift (.load arg10 (Rect.unit (s := S256x128) ![0, 0] S256x128.size inb_S256x128_S256x128_0_0).toLoadRect (View.loadsAt_vmem h_S256x128))
  Prog.lift (.store arg10 (Rect.unit (s := S256x128) ![0, 0] S256x128.size inb_S256x128_S256x128_0_0) (k0_pay25 v73 v74 v79 v81 v82 v85 v92) Finset.univ (View.stores_vmem_bits_univ h_S256x128 rfl) (.inl rfl))
  pure ⟨⟩

/-- The rows of the transform from `o` on: `128` of its `256`. -/
def half (o : ℕ) (inb : ∀ a : Fin 2, (![o, 0] : Fin 2 → ℕ) a + S128x128.size a ≤ S256x128.size a) (X : Vec F S256x128 .f32) : Vec F S128x128 .f32 :=
  fun x => X ((Rect.unit (s := S256x128) ![o, 0] S128x128.size inb).toLoadRect.idx x)

/-- The result block from the scratch contents, the transform `tw`, the bias `tb` and the global rows `xgp`. -/
def outVal (tw : Vec F S256x128 .f32) (tb : Vec F S1x128 .f32) (xgp : Vec F S256x128 .f32) (d : Vec F S256x1 .f32) (S : Vec F S256x128 .f32) :
    Vec F S256x128 .f32 :=
  k0_pay25 S d (half 0 inb_S256x128_S128x128_0_0 tw) xgp (half 128 inb_S256x128_S128x128_128_0 tw) tb xgp

omit [FloatOps F] in
/-- A whole memref read through half of its rows. -/
theorem readAt_half {M : Memref sig .tc .vmem S256x128 .f32} (h : M.IsWhole) (X : Vec F S256x128 .f32) (o : ℕ)
    (inb : ∀ a : Fin 2, (![o, 0] : Fin 2 → ℕ) a + S128x128.size a ≤ S256x128.size a) :
    M.view.readAt (Elt F) (Rect.unit (s := S256x128) ![o, 0] S128x128.size inb).toLoadRect (h.unread X) = half o inb X :=
  funext fun x => h.readAt_unread X _ x

/-- The result stored, only where its condition holds; elsewhere the result block stays as it was. -/
theorem out_if {arg7 : Memref sig .tc .vmem S256x128 .f32} (h7 : arg7.IsWhole) {arg8 : Memref sig .tc .vmem S1x128 .f32} (h8 : arg8.IsWhole)
    {arg9 : Memref sig .tc .vmem S256x128 .f32} (h9 : arg9.IsWhole) {arg10 : Memref sig .tc .vmem S256x128 .f32} (h10 : arg10.IsWhole)
    {arg11 : Memref sig .tc .vmem S256x1 .f32} (h11 : arg11.IsWhole)
    {arg12 : Memref sig .tc .vmem S256x128 .f32} (h12 : arg12.IsWhole) (q : Prop) [Decidable q]
    (tw : Vec F S256x128 .f32) (tb : Vec F S1x128 .f32) (xgp o : Vec F S256x128 .f32)
    (d : Vec F S256x1 .f32) (S : Vec F S256x128 .f32) (E : Set ℕ) (K : PUnit → sProp 𝕄) :
    iprop(owns (c : Thread nD τ) arg7 fullShare tw ∗ owns (c : Thread nD τ) arg8 fullShare tb ∗ owns (c : Thread nD τ) arg9 fullShare xgp
        ∗ owns (c : Thread nD τ) arg10 fullShare o ∗ owns (c : Thread nD τ) arg11 fullShare d ∗ owns (c : Thread nD τ) arg12 fullShare S
        ∗ (iprop(owns (c : Thread nD τ) arg7 fullShare tw ∗ owns (c : Thread nD τ) arg8 fullShare tb ∗ owns (c : Thread nD τ) arg9 fullShare xgp
            ∗ owns (c : Thread nD τ) arg10 fullShare (if q then outVal tw tb xgp d S else o)
            ∗ owns (c : Thread nD τ) arg11 fullShare d ∗ owns (c : Thread nD τ) arg12 fullShare S) -∗ K ⟨⟩))
      ⊢ wp frame (wpE (defs₀ (F := F)) Variants.none c none) E (if q then outProg arg7 arg8 arg9 arg10 arg11 arg12 else pure ⟨⟩) K := by
  by_cases hq : q
  · simp only [if_pos hq]
    unfold outProg owns
    iintro ⟨⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := h7.eq_unread hf7; obtain rfl := h8.eq_unread hf8; obtain rfl := h9.eq_unread hf9
    obtain rfl := h11.eq_unread hf11; obtain rfl := h12.eq_unread hf12
    sl_exec
    sl_step
    iapply Hk
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr
      swap; · iexact H10
      ipureintro
      rw [View.read_writes_full, readAt_all h11, readAt_all h12, readAt_all h8, readAt_all h9, readAt_half h7, readAt_half h7]
      rfl
    isplitl [H11]
    · iexists _; isplitr; · ipureintro; exact hf11
      iexact H11
    · iexists _; isplitr; · ipureintro; exact hf12
      iexact H12
  · simp only [if_neg hq]
    iintro ⟨H7, H8, H9, H10, H11, H12, Hk⟩
    sl_step
    iapply Hk
    isplitl [H7]; · iexact H7
    isplitl [H8]; · iexact H8
    isplitl [H9]; · iexact H9
    isplitl [H10]; · iexact H10
    isplitl [H11]; · iexact H11
    iexact H12

/-! ## The prefetched tables -/

/-- A table memref's contents on core `c`. -/
abbrev TbBuf (c : Dev nD) (M : Memref sig .tc .smem S5 .i32) : Type := Buf (Elt F) (M.view.loc (c : Thread nD τ))

/-- A table held at half a share, which is what the body reads it by. -/
abbrev tbPt (c : Dev nD) (M : Memref sig .tc .smem S5 .i32) (f : TbBuf (F := F) c M) : sProp 𝕄 :=
  M.view.loc (c : Thread nD τ) ↦{fullShare.right} f

/-- The word of a table at the grid point. -/
def tword (c : Dev nD) (i : grid0.Coords) (M : Memref sig .tc .smem S5 .i32) (f : TbBuf (F := F) c M) : BitVec 32 :=
  M.view.readAt (Elt F) (Rect.unit (s := S5) (k0_off1 i) S1.size (k0_off1_inb i)).toLoadRect f (Shape.Idx.first (numel1_S1.symm ▸ Nat.one_pos))

/-! ## The two parts -/

/-- The condition of the zeroing. -/
abbrev condInit (i : grid0.Coords) : Prop := (Scalar.cmpi .ne (Scalar.extui (Scalar.cmpi .eq (BitVec.ofNat 32 (i 0).val) 0#32)) 0#32) = 1#1
/-- The condition of the window that starts `n` segments after the block's first. -/
abbrev condWin (n : BitVec 32) (span : BitVec 32) : Prop := (Scalar.cmpi .ne (Scalar.extui (Scalar.cmpi .sge span n)) 0#32) = 1#1
/-- The condition of the store of the result. -/
abbrev condOut (i : grid0.Coords) : Prop := k0_cond5 i = 1#1

/-- The loads of the first part and what it hands to the second. -/
def loadProg (i : grid0.Coords) (arg1 : Memref sig .tc .smem S5 .i32) (arg2 : Memref sig .tc .smem S5 .i32)
    (arg3 : Memref sig .tc .vmem S20000x128 .f32) (arg4 : Memref sig .tc .vmem S1x1x20000 .i32) (arg5 : Memref sig .tc .vmem S128x1 .bf16)
    (arg6 : Memref sig .tc .vmem S128x128 .bf16) :
    Prog (TpuEff nD τ sig (Elt F) Λ₀ .tc) (Σ' (arg0 : BitVec 32) (v11 : FVec F S20000x128 .bf16) (v15 : FVec F S1x20000 .f32) (v21 : IVec S1x20000 32) (v23 : Elt F .i32) (v25 : Elt F .i32) (v26 : IVec S64x20000 32) (v27 : IVec S256x64 32) (v28 : IVec S256x64 32) (v38 : FVec F S64x1 .f32) (v39 : FVec F S64x20000 .bf16), FVec F S64x128 .f32) := do
  let v3 : Vec F S20000x128 .f32 ← Prog.lift (.load arg3 (Rect.unit (s := S20000x128) ![0, 0] S20000x128.size inb_S20000x128_S20000x128_0_0).toLoadRect (View.loadsAt_vmem h_S20000x128))
  let v5 : Vec F S128x128 .bf16 ← Prog.lift (.load arg6 (Rect.unit (s := S128x128) ![0, 0] S128x128.size inb_S128x128_S128x128_0_0).toLoadRect (View.loadsAt_vmem h_S128x128))
  let v12 : Vec F S128x1 .bf16 ← Prog.lift (.load arg5 (Rect.unit (s := S128x1) ![0, 0] S128x1.size inb_S128x1_S128x1_0_0).toLoadRect (View.loadsAt_vmem h_S128x1))
  let v16 : Vec F S1x1x20000 .i32 ← Prog.lift (.load arg4 (Rect.unit (s := S1x1x20000) ![0, 0, 0] S1x1x20000.size inb_S1x1x20000_S1x1x20000_0_0_0).toLoadRect (View.loadsAt_vmem h_S1x1x20000))
  let v19 : Elt F .i32 ← smemLoad arg1 (Rect.unit (s := S5) (k0_off1 i) S1.size (k0_off1_inb i)) numel1_S1 rfl
  let v23 : Elt F .i32 ← smemLoad arg1 (Rect.unit (s := S5) (k0_off1 i) S1.size (k0_off1_inb i)) numel1_S1 rfl
  let v25 : Elt F .i32 ← smemLoad arg2 (Rect.unit (s := S5) (k0_off1 i) S1.size (k0_off1_inb i)) numel1_S1 rfl
  pure ⟨BitVec.ofNat 32 (i 0).val, k0_pay4 v3 v5, k0_pay5 v3 v12, k0_pay6 v16 v19, v23, v25, iota .tc S64x20000 32 [0] iota_S64x20000_d0_w32,
    iota .tc S256x64 32 [0] iota_S256x64_d0_w32, iota .tc S256x64 32 [1] iota_S256x64_d1_w32, k0_pay8 v3 v12 v16 v19, k0_pay9 v3 v12 v16 v19,
    constant S64x128 .f32 0x00000000#32⟩

/-- A conditional step followed by the rest is a conditional whose branches both go on with the rest. -/
theorem bind_if {β : Type} (q : Prop) [Decidable q] (p : BodyProg F) (k : PUnit → Prog (TpuEff nD τ sig (Elt F) Λ₀ .tc) β) :
    ((if q then p else pure ⟨⟩) >>= k) = (if q then p >>= k else k ⟨⟩) := by
  by_cases hq : q
  · simp only [if_pos hq]
  · simp only [if_neg hq]; rfl

/-- The first part is the zeroing, then the loads. -/
theorem part1_eq (i : grid0.Coords) (arg1 : Memref sig .tc .smem S5 .i32) (harg1 : arg1.IsWhole) (arg2 : Memref sig .tc .smem S5 .i32) (harg2 : arg2.IsWhole) (arg3 : Memref sig .tc .vmem S20000x128 .f32) (harg3 : arg3.IsWhole) (arg4 : Memref sig .tc .vmem S1x1x20000 .i32) (harg4 : arg4.IsWhole) (arg5 : Memref sig .tc .vmem S128x1 .bf16) (harg5 : arg5.IsWhole) (arg6 : Memref sig .tc .vmem S128x128 .bf16) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x128 .f32) (harg12 : arg12.IsWhole) :
    k0_part1 (F := F) i arg1 harg1 arg2 harg2 arg3 harg3 arg4 harg4 arg5 harg5 arg6 harg6 arg7 harg7 arg8 harg8 arg9 harg9 arg10 harg10 arg11 harg11 arg12 harg12
      = (if condInit i then initProg arg11 arg12 else pure ⟨⟩) >>= fun _ => loadProg i arg1 arg2 arg3 arg4 arg5 arg6 := by
  rw [k0_part1_eq_skeleton]
  simp only [bind_if]
  rfl

/-- The second part is the first window, the three windows under conditions, then the store of the result. -/
theorem part2_eq (i : grid0.Coords) (arg1 : Memref sig .tc .smem S5 .i32) (harg1 : arg1.IsWhole) (arg2 : Memref sig .tc .smem S5 .i32) (harg2 : arg2.IsWhole) (arg3 : Memref sig .tc .vmem S20000x128 .f32) (harg3 : arg3.IsWhole) (arg4 : Memref sig .tc .vmem S1x1x20000 .i32) (harg4 : arg4.IsWhole) (arg5 : Memref sig .tc .vmem S128x1 .bf16) (harg5 : arg5.IsWhole) (arg6 : Memref sig .tc .vmem S128x128 .bf16) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x128 .f32) (harg12 : arg12.IsWhole) (arg0 : BitVec 32) (v11 : FVec F S20000x128 .bf16) (v15 : FVec F S1x20000 .f32) (v21 : IVec S1x20000 32) (v23 : Elt F .i32) (v25 : Elt F .i32) (v26 : IVec S64x20000 32) (v27 : IVec S256x64 32) (v28 : IVec S256x64 32) (v38 : FVec F S64x1 .f32) (v39 : FVec F S64x20000 .bf16) (cst_14 : FVec F S64x128 .f32) :
    k0_part2 (F := F) i arg1 harg1 arg2 harg2 arg3 harg3 arg4 harg4 arg5 harg5 arg6 harg6 arg7 harg7 arg8 harg8 arg9 harg9 arg10 harg10 arg11 harg11 arg12 harg12 arg0 v11 v15 v21 v23 v25 v26 v27 v28 v38 v39 cst_14
      = winProg arg11 arg12 (k0_pay11 v11 v23 v27 v28 v39 cst_14) (k0_pay12 v23 v27 v28 v38) >>= fun _ =>
        (if condWin 64#32 v25 then winProg arg11 arg12 (k0_pay15 v11 v15 v21 v23 v26 v27 v28) (k0_pay16 v15 v21 v23 v26 v27 v28) else pure ⟨⟩) >>= fun _ =>
        (if condWin 128#32 v25 then winProg arg11 arg12 (k0_pay19 v11 v15 v21 v23 v26 v27 v28) (k0_pay20 v15 v21 v23 v26 v27 v28) else pure ⟨⟩) >>= fun _ =>
        (if condWin 192#32 v25 then winProg arg11 arg12 (k0_pay23 v11 v15 v21 v23 v26 v27 v28) (k0_pay24 v15 v21 v23 v26 v27 v28) else pure ⟨⟩) >>= fun _ =>
        (if condOut i then outProg arg7 arg8 arg9 arg10 arg11 arg12 else pure ⟨⟩) >>= fun _ => pure ⟨⟩ := by
  rw [k0_part2_eq_skeleton]
  simp only [bind_if]
  rfl

/-! ## The step of the two scratch buffers -/

/-- The sums of the weights after one grid point: `x`, `seg` the point's rows and segment ids, `gw` the gate's vector,
    `b0` the block's first segment, `sp` the number of segments it spans, `d` the sums before the point. -/
def stepD (i : grid0.Coords) (x : Vec F S20000x128 .f32) (seg : Vec F S1x1x20000 .i32) (gw : Vec F S128x1 .bf16) (b0 sp : BitVec 32)
    (d : Vec F S256x1 .f32) : Vec F S256x1 .f32 :=
  let rowW := iota .tc S64x20000 32 [0] iota_S64x20000_d0_w32
  let rowB := iota .tc S256x64 32 [0] iota_S256x64_d0_w32
  let colB := iota .tc S256x64 32 [1] iota_S256x64_d1_w32
  let d0 := if condInit i then k0_pay1 (F := F) else d
  let d1 := k0_pay12 b0 rowB colB (k0_pay8 x gw seg b0) d0
  let d2 := if condWin 64#32 sp then k0_pay16 (k0_pay5 x gw) (k0_pay6 (F := F) seg b0) b0 rowW rowB colB d1 else d1
  let d3 := if condWin 128#32 sp then k0_pay20 (k0_pay5 x gw) (k0_pay6 (F := F) seg b0) b0 rowW rowB colB d2 else d2
  if condWin 192#32 sp then k0_pay24 (k0_pay5 x gw) (k0_pay6 (F := F) seg b0) b0 rowW rowB colB d3 else d3

/-- The sums of the weighted rows after one grid point; `fw` is the feature transform, `S` the sums before the point. -/
def stepS (i : grid0.Coords) (x : Vec F S20000x128 .f32) (seg : Vec F S1x1x20000 .i32) (gw : Vec F S128x1 .bf16) (fw : Vec F S128x128 .bf16)
    (b0 sp : BitVec 32) (S : Vec F S256x128 .f32) : Vec F S256x128 .f32 :=
  let rowW := iota .tc S64x20000 32 [0] iota_S64x20000_d0_w32
  let rowB := iota .tc S256x64 32 [0] iota_S256x64_d0_w32
  let colB := iota .tc S256x64 32 [1] iota_S256x64_d1_w32
  let S0 := if condInit i then k0_pay2 (F := F) else S
  let S1 := k0_pay11 (k0_pay4 x fw) b0 rowB colB (k0_pay9 x gw seg b0) (constant S64x128 .f32 0x00000000#32) S0
  let S2 := if condWin 64#32 sp then k0_pay15 (k0_pay4 x fw) (k0_pay5 x gw) (k0_pay6 (F := F) seg b0) b0 rowW rowB colB S1 else S1
  let S3 := if condWin 128#32 sp then k0_pay19 (k0_pay4 x fw) (k0_pay5 x gw) (k0_pay6 (F := F) seg b0) b0 rowW rowB colB S2 else S2
  if condWin 192#32 sp then k0_pay23 (k0_pay4 x fw) (k0_pay5 x gw) (k0_pay6 (F := F) seg b0) b0 rowW rowB colB S3 else S3

/-- The loads, run: the buffers come back as they were and the second part gets the payloads of what they hold. -/
theorem load_run (i : grid0.Coords) (arg1 : Memref sig .tc .smem S5 .i32) (arg2 : Memref sig .tc .smem S5 .i32)
    {arg3 : Memref sig .tc .vmem S20000x128 .f32} (h3 : arg3.IsWhole) {arg4 : Memref sig .tc .vmem S1x1x20000 .i32} (h4 : arg4.IsWhole)
    {arg5 : Memref sig .tc .vmem S128x1 .bf16} (h5 : arg5.IsWhole) {arg6 : Memref sig .tc .vmem S128x128 .bf16} (h6 : arg6.IsWhole)
    (x : Vec F S20000x128 .f32) (seg : Vec F S1x1x20000 .i32) (gw : Vec F S128x1 .bf16) (fw : Vec F S128x128 .bf16)
    (t1 : TbBuf (F := F) c arg1) (t2 : TbBuf (F := F) c arg2) (E : Set ℕ)
    (K : (Σ' (arg0 : BitVec 32) (v11 : FVec F S20000x128 .bf16) (v15 : FVec F S1x20000 .f32) (v21 : IVec S1x20000 32) (v23 : Elt F .i32) (v25 : Elt F .i32) (v26 : IVec S64x20000 32) (v27 : IVec S256x64 32) (v28 : IVec S256x64 32) (v38 : FVec F S64x1 .f32) (v39 : FVec F S64x20000 .bf16), FVec F S64x128 .f32) → sProp 𝕄) :
    iprop(owns (c : Thread nD τ) arg3 fullShare x ∗ owns (c : Thread nD τ) arg4 fullShare seg ∗ owns (c : Thread nD τ) arg5 fullShare gw
        ∗ owns (c : Thread nD τ) arg6 fullShare fw ∗ tbPt c arg1 t1 ∗ tbPt c arg2 t2
        ∗ (iprop(owns (c : Thread nD τ) arg3 fullShare x ∗ owns (c : Thread nD τ) arg4 fullShare seg ∗ owns (c : Thread nD τ) arg5 fullShare gw
            ∗ owns (c : Thread nD τ) arg6 fullShare fw ∗ tbPt c arg1 t1 ∗ tbPt c arg2 t2)
          -∗ K ⟨BitVec.ofNat 32 (i 0).val, k0_pay4 x fw, k0_pay5 x gw, k0_pay6 (F := F) seg (tword c i arg1 t1), tword c i arg1 t1, tword c i arg2 t2, iota .tc S64x20000 32 [0] iota_S64x20000_d0_w32,
              iota .tc S256x64 32 [0] iota_S256x64_d0_w32, iota .tc S256x64 32 [1] iota_S256x64_d1_w32, k0_pay8 x gw seg (tword c i arg1 t1),
              k0_pay9 x gw seg (tword c i arg1 t1), constant S64x128 .f32 0x00000000#32⟩))
      ⊢ wp frame (wpE (defs₀ (F := F)) Variants.none c none) E (loadProg i arg1 arg2 arg3 arg4 arg5 arg6) K := by
  unfold loadProg owns
  iintro ⟨⟨%f3, %hf3, H3⟩, ⟨%f4, %hf4, H4⟩, ⟨%f5, %hf5, H5⟩, ⟨%f6, %hf6, H6⟩, HT1, HT2, Hk⟩
  obtain rfl := h3.eq_unread hf3; obtain rfl := h4.eq_unread hf4; obtain rfl := h5.eq_unread hf5; obtain rfl := h6.eq_unread hf6
  sl_exec
  sl_step
  simp only [readAt_all h3, readAt_all h4, readAt_all h5, readAt_all h6]
  rw [show load_run.sl.r c i arg1 t1 = tword c i arg1 t1 from rfl, show load_run.sl.r_1 c i arg2 t2 = tword c i arg2 t2 from rfl]
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [HT1]; · iexact HT1
  iexact HT2

/-- THE BODY at one grid point: the inputs and the tables come back as they were, the scratch buffers stepped, and the
    result block stored where the point is the last one. -/
theorem body_run (i : grid0.Coords) (arg1 : Memref sig .tc .smem S5 .i32) (harg1 : arg1.IsWhole) (arg2 : Memref sig .tc .smem S5 .i32) (harg2 : arg2.IsWhole) (arg3 : Memref sig .tc .vmem S20000x128 .f32) (harg3 : arg3.IsWhole) (arg4 : Memref sig .tc .vmem S1x1x20000 .i32) (harg4 : arg4.IsWhole) (arg5 : Memref sig .tc .vmem S128x1 .bf16) (harg5 : arg5.IsWhole) (arg6 : Memref sig .tc .vmem S128x128 .bf16) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x128 .f32) (harg12 : arg12.IsWhole)
    (x : Vec F S20000x128 .f32) (seg : Vec F S1x1x20000 .i32) (gw : Vec F S128x1 .bf16) (fw : Vec F S128x128 .bf16)
    (tw : Vec F S256x128 .f32) (tb : Vec F S1x128 .f32) (xgp o : Vec F S256x128 .f32) (d : Vec F S256x1 .f32) (S : Vec F S256x128 .f32)
    (t1 : TbBuf (F := F) c arg1) (t2 : TbBuf (F := F) c arg2) (E : Set ℕ) (K : PUnit → sProp 𝕄) :
    iprop(owns (c : Thread nD τ) arg3 fullShare x ∗ owns (c : Thread nD τ) arg4 fullShare seg ∗ owns (c : Thread nD τ) arg5 fullShare gw
        ∗ owns (c : Thread nD τ) arg6 fullShare fw ∗ owns (c : Thread nD τ) arg7 fullShare tw ∗ owns (c : Thread nD τ) arg8 fullShare tb
        ∗ owns (c : Thread nD τ) arg9 fullShare xgp ∗ owns (c : Thread nD τ) arg10 fullShare o
        ∗ owns (c : Thread nD τ) arg11 fullShare d ∗ owns (c : Thread nD τ) arg12 fullShare S ∗ tbPt c arg1 t1 ∗ tbPt c arg2 t2
        ∗ (iprop(owns (c : Thread nD τ) arg3 fullShare x ∗ owns (c : Thread nD τ) arg4 fullShare seg ∗ owns (c : Thread nD τ) arg5 fullShare gw
            ∗ owns (c : Thread nD τ) arg6 fullShare fw ∗ owns (c : Thread nD τ) arg7 fullShare tw ∗ owns (c : Thread nD τ) arg8 fullShare tb
            ∗ owns (c : Thread nD τ) arg9 fullShare xgp
            ∗ owns (c : Thread nD τ) arg10 fullShare (if condOut i then outVal tw tb xgp (stepD i x seg gw (tword c i arg1 t1) (tword c i arg2 t2) d)
                (stepS i x seg gw fw (tword c i arg1 t1) (tword c i arg2 t2) S) else o)
            ∗ owns (c : Thread nD τ) arg11 fullShare (stepD i x seg gw (tword c i arg1 t1) (tword c i arg2 t2) d)
            ∗ owns (c : Thread nD τ) arg12 fullShare (stepS i x seg gw fw (tword c i arg1 t1) (tword c i arg2 t2) S)
            ∗ tbPt c arg1 t1 ∗ tbPt c arg2 t2) -∗ K ⟨⟩))
      ⊢ wp frame (wpE (defs₀ (F := F)) Variants.none c none) E
          (cc0_kern i arg1 harg1 arg2 harg2 arg3 harg3 arg4 harg4 arg5 harg5 arg6 harg6 arg7 harg7 arg8 harg8 arg9 harg9 arg10 harg10 arg11 harg11 arg12 harg12) K := by
  rw [cc0_kern_eq_skeleton]
  unfold cc0_kern_skel
  rw [part1_eq]
  simp only [part2_eq, wp_bind]
  iintro ⟨H3, H4, H5, H6, H7, H8, H9, H10, H11, H12, HT1, HT2, Hk⟩
  iapply (init_if c harg11 harg12 (condInit i) d S E _)
  isplitl [H11]; · iexact H11
  isplitl [H12]; · iexact H12
  iintro ⟨H11, H12⟩
  iapply (load_run c i arg1 arg2 harg3 harg4 harg5 harg6 x seg gw fw t1 t2 E _)
  isplitl [H3]; · iexact H3
  isplitl [H4]; · iexact H4
  isplitl [H5]; · iexact H5
  isplitl [H6]; · iexact H6
  isplitl [HT1]; · iexact HT1
  isplitl [HT2]; · iexact HT2
  iintro ⟨H3, H4, H5, H6, HT1, HT2⟩
  simp only [wp_bind]
  iapply (win_run c harg11 harg12 _ _ _ _ E _)
  isplitl [H11]; · iexact H11
  isplitl [H12]; · iexact H12
  iintro ⟨H11, H12⟩
  iapply (win_if c harg11 harg12 (condWin 64#32 (tword c i arg2 t2)) _ _ _ _ E _)
  isplitl [H11]; · iexact H11
  isplitl [H12]; · iexact H12
  iintro ⟨H11, H12⟩
  iapply (win_if c harg11 harg12 (condWin 128#32 (tword c i arg2 t2)) _ _ _ _ E _)
  isplitl [H11]; · iexact H11
  isplitl [H12]; · iexact H12
  iintro ⟨H11, H12⟩
  iapply (win_if c harg11 harg12 (condWin 192#32 (tword c i arg2 t2)) _ _ _ _ E _)
  isplitl [H11]; · iexact H11
  isplitl [H12]; · iexact H12
  iintro ⟨H11, H12⟩
  iapply (out_if c harg7 harg8 harg9 harg10 harg11 harg12 (condOut i) tw tb xgp o _ _ E _)
  isplitl [H7]; · iexact H7
  isplitl [H8]; · iexact H8
  isplitl [H9]; · iexact H9
  isplitl [H10]; · iexact H10
  isplitl [H11]; · iexact H11
  isplitl [H12]; · iexact H12
  iintro ⟨H7, H8, H9, H10, H11, H12⟩
  sl_step
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HT1]; · iexact HT1
  iexact HT2

end Cert.KernelIdeal.Run

end
-- ==== Proof.RunIdeal.Launch.lean ====
/-
  The launch of the kernel: what the region finds (`V`, `tbl`, `iblk`), what the two scratch buffers hold after each grid
  point (`scr`), the pipeline's proof data (`dats`), and the run (`run_main`) with every array's final contents named.
-/
module

public import proofs.«01_k».proof.Proof.RunIdeal.Body

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch memory after the host operations before the call. -/
abbrev V (c : Dev nD) (b : Ref sig .tc) : Buf (Elt F) ((c : Thread nD τ).loc b) := StableHlo.after hostOps0 (fun b => m (c, b)) b

/-- The operations before the launch take no new locations. -/
theorem hostOps0_fresh : (hostOps0 : List (HloOp τ sig (Elt F))).Forall fun op => op.fresh = ∅ := by
  simp only [List.Forall]; repeat' constructor

set_option maxHeartbeats 800000 in
/-- @main is the host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is none of the host operations' results holds what it held at launch. -/
theorem V_kept (c : Dev nD) (b : Ref sig .tc)
    (hb : b ≠ main_v0 ∧ b ≠ main_v1 ∧ b ≠ main_v2 ∧ b ≠ main_v3 ∧ b ≠ main_v4 ∧ b ≠ main_v5 ∧ b ≠ main_v6) :
    V m c b = m ((c : Thread nD τ).loc b) :=
  StableHlo.after_of_forall_not_mem (b := Proc.devRef .tc b) _ _ (List.forall_iff_forall_mem.mp (by
    obtain ⟨h0, h1, h2, h3, h4, h5, h6⟩ := hb
    simp only [hostOps0, List.flatten_cons, List.flatten_nil, List.append_nil, List.cons_append,
      List.nil_append, List.Forall, StableHlo.unary_writes, StableHlo.binary_writes,
      StableHlo.reshape_writes, Finset.mem_singleton]
    repeat' apply And.intro
    all_goals exact StableHlo.devRef_ne_of_ne (by assumption)))

/-- The two tables' contents when the region is entered. -/
def tbl : pre0.Contents (Elt F) := fun j => V m (0 : Dev nD) (pre0.ref j)

/-- The tables' contents are what the region finds in them. -/
theorem V_pre (c : Dev nD) (j : Fin 2) : V m c (pre0.ref j) = tbl m j := by
  obtain rfl : c = 0 := Subsingleton.elim _ _; rfl

/-- No window's index map reads a table, so any contents are admissible. -/
abbrev adm : (pcfg0 (F := F)).Adm := ⟨tbl m, trivial⟩
/-- The pipeline at the tables' contents. -/
abbrev cfgM : Pipeline.Cfg sig Λ₀ := cfg0 (adm m)

/-! The table of the blocks' first segments and the table of their spans, as the body is handed them. -/

/-- The first of the tables. -/
abbrev tbM0 : Memref sig .tc .smem S5 .i32 := Memref.whole main_v1
/-- The second of the tables. -/
abbrev tbM1 : Memref sig .tc .smem S5 .i32 := Memref.whole main_v3

/-- The halves of the tables the region hands the body. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-! ## The scratch buffers -/

/-- The first of the scratch buffers. -/
abbrev scM0 : Memref sig .tc .vmem S256x1 .f32 := Memref.whole cc0_scratch0
/-- The second of the scratch buffers. -/
abbrev scM1 : Memref sig .tc .vmem S256x128 .f32 := Memref.whole cc0_scratch1

/-- The frame's invariant with the scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; rfl

/-- The weights' running sums after point `t`, from those before it. -/
def nextD (c : Dev nD) (t : Fin (cfgM m).N) (d : Vec F S256x1 .f32) : Vec F S256x1 .f32 :=
  stepD (grid0.coords t) (iblk m c 0 t) (iblk m c 1 t) (iblk m c 2 t)
    (tword c (grid0.coords t) tbM0 (tbl m 0)) (tword c (grid0.coords t) tbM1 (tbl m 1)) d
/-- The weighted rows' running sums after point `t`, from those before it. -/
def nextS (c : Dev nD) (t : Fin (cfgM m).N) (S : Vec F S256x128 .f32) : Vec F S256x128 .f32 :=
  stepS (grid0.coords t) (iblk m c 0 t) (iblk m c 1 t) (iblk m c 2 t) (iblk m c 3 t)
    (tword c (grid0.coords t) tbM0 (tbl m 0)) (tword c (grid0.coords t) tbM1 (tbl m 1)) S

/-- What the scratch buffers hold after the first `n` points, starting from zeros. -/
def scr (c : Dev nD) : (n : ℕ) → n ≤ (cfgM m).N → Vec F S256x1 .f32 × Vec F S256x128 .f32
  | 0, _ => (k0_pay1, k0_pay2)
  | n + 1, h => (nextD m c ⟨n, h⟩ (scr c n (Nat.le_of_lt h)).1, nextS m c ⟨n, h⟩ (scr c n (Nat.le_of_lt h)).2)

/-- The first point zeroes both scratch buffers: what they held before does not matter. -/
theorem condInit_iff : ∀ t : Fin grid0.N, condInit (grid0.coords t) ↔ t.val = 0 := fun t => by
  have ht : t.val < 5 := Nat.lt_of_lt_of_eq t.isLt N_0
  have e0 : (grid0.coords t 0).val = t.val / 1 % 5 := Pipeline.Grid.coords_val t 0 (by decide) rfl
  simp only [condInit, e0]
  word_cmp

/-- The result is stored at the last point. -/
theorem condOut_iff : ∀ t : Fin grid0.N, condOut (grid0.coords t) ↔ t.val = 4 := fun t => by
  have ht : t.val < 5 := Nat.lt_of_lt_of_eq t.isLt N_0
  have e0 : (grid0.coords t 0).val = t.val / 1 % 5 := Pipeline.Grid.coords_val t 0 (by decide) rfl
  simp only [condOut, k0_cond5, e0]
  word_cmp

/-- At the first point the weights' sums do not depend on what was there before. -/
theorem stepD_init (i : grid0.Coords) (h : condInit i) (x : Vec F S20000x128 .f32) (seg : Vec F S1x1x20000 .i32) (gw : Vec F S128x1 .bf16)
    (b0 sp : BitVec 32) (d d' : Vec F S256x1 .f32) : stepD i x seg gw b0 sp d = stepD i x seg gw b0 sp d' := by
  unfold stepD; simp only [if_pos h]
/-- At the first point the weighted rows' sums do not depend on what was there before. -/
theorem stepS_init (i : grid0.Coords) (h : condInit i) (x : Vec F S20000x128 .f32) (seg : Vec F S1x1x20000 .i32) (gw : Vec F S128x1 .bf16)
    (fw : Vec F S128x128 .bf16) (b0 sp : BitVec 32) (S S' : Vec F S256x128 .f32) :
    stepS i x seg gw fw b0 sp S = stepS i x seg gw fw b0 sp S' := by
  unfold stepS; simp only [if_pos h]

/-- `stepD_init` at the blocks of point `t`. -/
theorem nextD_init (c : Dev nD) (t : Fin (cfgM m).N) (h : t.val = 0) (d d' : Vec F S256x1 .f32) : nextD m c t d = nextD m c t d' := by
  unfold nextD; exact stepD_init _ ((condInit_iff t).2 h) _ _ _ _ _ _ _
/-- `stepS_init` at the blocks of point `t`. -/
theorem nextS_init (c : Dev nD) (t : Fin (cfgM m).N) (h : t.val = 0) (S S' : Vec F S256x128 .f32) : nextS m c t S = nextS m c t S' := by
  unfold nextS; exact stepS_init _ ((condInit_iff t).2 h) _ _ _ _ _ _ _ _

/-- One more point of the recursion. -/
theorem scr_succ (c : Dev nD) (n : ℕ) (h : n < (cfgM m).N) :
    scr m c (n + 1) h = (nextD m c ⟨n, h⟩ (scr m c n (Nat.le_of_lt h)).1, nextS m c ⟨n, h⟩ (scr m c n (Nat.le_of_lt h)).2) := rfl

attribute [local irreducible] scr nextD nextS

/-- From scratch contents that are those of the recursion, or anything before the first point, one point leads to the
    recursion's next contents. -/
theorem scr_step (c : Dev nD) (n : ℕ) (hn : n < (cfgM m).N) (d : Vec F S256x1 .f32) (S : Vec F S256x128 .f32)
    (h : n ≠ 0 → d = (scr m c n (Nat.le_of_lt hn)).1 ∧ S = (scr m c n (Nat.le_of_lt hn)).2) :
    nextD m c ⟨n, hn⟩ d = (scr m c (n + 1) hn).1 ∧ nextS m c ⟨n, hn⟩ S = (scr m c (n + 1) hn).2 := by
  rw [scr_succ]
  by_cases hz : n = 0
  · exact ⟨nextD_init m c ⟨n, hn⟩ hz _ _, nextS_init m c ⟨n, hn⟩ hz _ _⟩
  · exact ⟨congrArg _ (h hz).1, congrArg _ (h hz).2⟩

/-- The result block, computed from what the scratch buffers hold after point `t`. -/
def resBlk (c : Dev nD) (t : Fin (cfgM m).N) : Vec F S256x128 .f32 :=
  outVal (iblk m c 4 t) (iblk m c 5 t) (iblk m c 6 t) (scr m c (t.val + 1) t.isLt).1 (scr m c (t.val + 1) t.isLt).2

/-! ## The pipeline's proof data -/

/-- The invariant before point `n`: the scratch buffers hold the recursion's contents (anything before the first point). -/
def PhiS (c : Dev nD) (n : ℕ) (hn : n ≤ (cfgM m).N) : sProp 𝕄 :=
  iprop(∃ d, ∃ S, ⌜n ≠ 0 → d = (scr m c n hn).1 ∧ S = (scr m c n hn).2⌝ ∗ owns (c : Thread nD τ) scM0 fullShare d
    ∗ owns (c : Thread nD τ) scM1 fullShare S ∗ (∃ r, prngReg c r) ∗ Pipeline.ΦT pre0 (tbl m) c)

/-- The proof data of the pipeline on core `c`: each input's buffer keeps its block, the result's buffer holds `resBlk`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => resBlk m c t
  Φ t := PhiS m c t.val (Nat.le_of_lt_succ t.isLt)
  q _ := fullShare
  owed _ := 0

/-- The proof data's arrays are those that the region finds. -/
theorem A_eq (c : Dev nD) (w : Fin (cfgM m).W) : (dats m 0 c).A w = V m c (Pipeline.arrRef spec0 w) := by dsimp only [dats]

/-- The invariant before point `t`. -/
theorem PhiS_castSucc (c : Dev nD) (t : Fin (cfgM m).N) :
    (dats m 0 c).Φ t.castSucc = PhiS m c t.val (Nat.le_of_lt t.isLt) := by
  dsimp only [dats]; exact Pipeline.Dat.Φ_castSucc (PhiS m c) t

/-- After the body at point `t` the buffer of the rows holds its block. -/
theorem after_0 (c : Dev nD) (t : Fin (cfgM m).N) : (dats m 0 c).after 0 t = iblk m c 0 t := by dsimp only [dats]; rfl
/-- After the body at point `t` the buffer of the segment ids holds its block. -/
theorem after_1 (c : Dev nD) (t : Fin (cfgM m).N) : (dats m 0 c).after 1 t = iblk m c 1 t := by dsimp only [dats]; rfl
/-- After the body at point `t` the buffer of the gate holds its block. -/
theorem after_2 (c : Dev nD) (t : Fin (cfgM m).N) : (dats m 0 c).after 2 t = iblk m c 2 t := by dsimp only [dats]; rfl
/-- After the body at point `t` the buffer of the feature transform holds its block. -/
theorem after_3 (c : Dev nD) (t : Fin (cfgM m).N) : (dats m 0 c).after 3 t = iblk m c 3 t := by dsimp only [dats]; rfl
/-- After the body at point `t` the buffer of the output transform holds its block. -/
theorem after_4 (c : Dev nD) (t : Fin (cfgM m).N) : (dats m 0 c).after 4 t = iblk m c 4 t := by dsimp only [dats]; rfl
/-- After the body at point `t` the buffer of the bias holds its block. -/
theorem after_5 (c : Dev nD) (t : Fin (cfgM m).N) : (dats m 0 c).after 5 t = iblk m c 5 t := by dsimp only [dats]; rfl
/-- After the body at point `t` the buffer of the previous rows holds its block. -/
theorem after_6 (c : Dev nD) (t : Fin (cfgM m).N) : (dats m 0 c).after 6 t = iblk m c 6 t := by dsimp only [dats]; rfl
/-- After the body at point `t` the result's buffer holds `resBlk`. -/
theorem after_7 (c : Dev nD) (t : Fin (cfgM m).N) : (dats m 0 c).after 7 t = resBlk m c t := by dsimp only [dats]; rfl

/-- Each input's current staging buffer holds its block at every point, fetched there or not. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
/-- Before the body at point `t` the buffer of the segment ids holds its block. -/
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- Before the body at point `t` the buffer of the gate holds its block. -/
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
/-- Before the body at point `t` the buffer of the feature transform holds its block. -/
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
/-- Before the body at point `t` the buffer of the output transform holds its block. -/
theorem before_4 (c : Dev nD) (t : Fin (cfgM m).N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
/-- Before the body at point `t` the buffer of the bias holds its block. -/
theorem before_5 (c : Dev nD) (t : Fin (cfgM m).N) (d) : (dats m 0 c).before 5 t d = iblk m c 5 t :=
  ((dats m 0 c).before_in_eq_fetched 5 rfl (fun _ => rfl) (fun _ _ _ => rfl) (fun t => by rw [after_5]; unfold Dat.blockOf iblk; rw [A_eq]) t d).trans
    (by unfold Dat.fetched Dat.blockOf iblk; rw [A_eq]; rfl)
/-- Before the body at point `t` the buffer of the previous rows holds its block. -/
theorem before_6 (c : Dev nD) (t : Fin (cfgM m).N) (d) : (dats m 0 c).before 6 t d = iblk m c 6 t :=
  ((dats m 0 c).before_in_eq_fetched 6 rfl (fun _ => rfl) (fun _ _ _ => rfl) (fun t => by rw [after_6]; unfold Dat.blockOf iblk; rw [A_eq]) t d).trans
    (by unfold Dat.fetched Dat.blockOf iblk; rw [A_eq]; rfl)

/-! ## The body obligation, at a generic point -/

/-- Window `w`'s current staging memref at point `t`. -/
abbrev ms (w : Fin 8) (t : Fin (cfgM m).N) := ((cfgM m).win w).stage ((cfgM m).slots t w)

/-- An input window is never idle: the body hands it back at the proof data's contents. -/
theorem leaves_in (c : Dev nD) (w : Fin 8) (hw : w ≠ 7) (t : Fin (cfgM m).N) :
    (dats m 0 c).leavesExact w t = owns (c : Thread nD τ) (ms m w t) fullShare ((dats m 0 c).after w t) := by
  have hl : (cfgM m).idle w (grid0.coords t) = false :=
    (by intro w hw i; fin_cases w <;> first | rfl | exact absurd rfl hw : ∀ w : Fin 8, w ≠ 7 → ∀ i : grid0.Coords, idle0 w i = false) w hw _
  unfold Dat.leavesExact; rw [hl]

/-- The result's window is written back after the last point only. -/
theorem flush_7 : ∀ t : Fin (cfgM m).N, ((cfgM m).win 7).flush t = true ↔ t.val % 5 = 4 :=
  (fun t => Pipeline.Window.flushOf_const cc0_transform_7 (fun _ _ => rfl) (n := 5) (by decide) rfl t
    : ∀ t : Fin grid0.N, Pipeline.Window.flushOf grid0 true cc0_transform_7 t = true ↔ t.val % 5 = 4)

/-- The result's window after the body: what the body leaves in it, given what it held before, whether or not the point
    stores the result. -/
theorem leaves_7 (c : Dev nD) (t : Fin (cfgM m).N) (d) (X : Vec F S256x128 .f32)
    (h1 : condOut (grid0.coords t) → X = resBlk m c t) (h2 : ¬condOut (grid0.coords t) → X = (dats m 0 c).before 7 t d) :
    (owns (c : Thread nD τ) (ms m 7 t) fullShare X : sProp 𝕄) ⊢ (dats m 0 c).leavesExact 7 t := by
  have ht : t.val < 5 := Nat.lt_of_lt_of_eq t.isLt N_0
  by_cases h : condOut (grid0.coords t)
  · have hX := h1 h
    have hl : (cfgM m).idle 7 (grid0.coords t) = false := by
      show (!(k0_cond5 (grid0.coords t) == 1#1)) = false
      rw [show k0_cond5 (grid0.coords t) = 1#1 from h]; rfl
    rw [show (dats m 0 c).leavesExact 7 t = owns (c : Thread nD τ) (ms m 7 t) fullShare ((dats m 0 c).after 7 t) from by
      unfold Dat.leavesExact; rw [hl]; rfl, after_7, hX]
  · have hX := h2 h
    have hl : (cfgM m).idle 7 (grid0.coords t) = true := by
      show (!(k0_cond5 (grid0.coords t) == 1#1)) = true
      rw [Bool.not_eq_true', beq_eq_false_iff_ne]; exact h
    have hf : ((cfgM m).win 7).flush t = false := by
      rw [Bool.eq_false_iff]; intro hf
      exact h ((condOut_iff t).2 (by have := (flush_7 m t).1 hf; omega))
    rw [Dat.leavesExact_idle _ 7 t hl hf, hX]
    iintro H; iexists _; iexact H

/-- The kernel's body at point `t`, on what the pipeline calls it with. -/
abbrev bodyAt (t : Fin (cfgM m).N) : Prog (TpuEff nD τ sig (Elt F) Λ₀ .tc) PUnit :=
  cc0_kern (grid0.coords t) tbM0 (Memref.isWhole_whole _) tbM1 (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3))
    (spec0_4.stage ((cfgM m).slots t 4)) (hstage0_4 (((cfgM m).slots t 4).cast nbuf0_4))
    (spec0_5.stage ((cfgM m).slots t 5)) (hstage0_5 (((cfgM m).slots t 5).cast nbuf0_5))
    (spec0_6.stage ((cfgM m).slots t 6)) (hstage0_6 (((cfgM m).slots t 6).cast nbuf0_6))
    (spec0_7.stage ((cfgM m).slots t 7)) (hstage0_7 (((cfgM m).slots t 7).cast nbuf0_7))
    scM0 (Memref.isWhole_whole _) scM1 (Memref.isWhole_whole _)

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms m 0 t) fullShare ((dats m 0 c).before 0 t d))
    ∗ (∃ d, owns (c : Thread nD τ) (ms m 1 t) fullShare ((dats m 0 c).before 1 t d))
    ∗ (∃ d, owns (c : Thread nD τ) (ms m 2 t) fullShare ((dats m 0 c).before 2 t d))
    ∗ (∃ d, owns (c : Thread nD τ) (ms m 3 t) fullShare ((dats m 0 c).before 3 t d))
    ∗ (∃ d, owns (c : Thread nD τ) (ms m 4 t) fullShare ((dats m 0 c).before 4 t d))
    ∗ (∃ d, owns (c : Thread nD τ) (ms m 5 t) fullShare ((dats m 0 c).before 5 t d))
    ∗ (∃ d, owns (c : Thread nD τ) (ms m 6 t) fullShare ((dats m 0 c).before 6 t d))
    ∗ (∃ d, owns (c : Thread nD τ) (ms m 7 t) fullShare ((dats m 0 c).before 7 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 3200000 in
/-- The body at any point: its triple `body_run` at the blocks, the invariant's scratch contents going through one step. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_castSucc]
  rw [leaves_in m c 0 (by decide), leaves_in m c 1 (by decide), leaves_in m c 2 (by decide), leaves_in m c 3 (by decide),
    leaves_in m c 4 (by decide), leaves_in m c 5 (by decide), leaves_in m c 6 (by decide),
    after_0, after_1, after_2, after_3, after_4, after_5, after_6]
  unfold PhiS
  rw [PhiT_eq]
  iintro ⟨⟨%d, %S, %hdS, HS0, HS1, Hg, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨hd, hS⟩ := scr_step m c t.val t.isLt d S hdS
  iapply (body_run c (grid0.coords t) _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    ((dats m 0 c).before 7 t d7) d S (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HT0]; · iexact HT0
  isplitl [HT1]; · iexact HT1
  iintro ⟨H0, H1, H2, H3, H4, H5, H6, H7, HS0, HS1, HT0, HT1⟩
  isplitl [HS0 HS1 Hg HT0 HT1]
  · iexists (nextD m c t d); iexists (nextS m c t S)
    isplitr
    · ipureintro; intro _; exact ⟨hd, hS⟩
    unfold nextD nextS
    isplitl [HS0]; · iexact HS0
    isplitl [HS1]; · iexact HS1
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7 m c t d7 (if condOut (grid0.coords t) then outVal (iblk m c 4 t) (iblk m c 5 t) (iblk m c 6 t) (nextD m c t d) (nextS m c t S)
    else (dats m 0 c).before 7 t d7) (fun h => (if_pos h).trans (by unfold resBlk; rw [← hd, ← hS])) (fun h => if_neg h))
  unfold nextD nextS
  iexact H7

/-- The body table's row at point `t`'s slots is the body as `bodyAt` spells it. -/
theorem defs₀_row (t : Fin (cfgM m).N) :
    defs₀ (F := F) .tc (cfgM m).body ((cfgM m).bodyArgs t ((cfgM m).slots t)) = bodyAt m t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-- What the launch hands the region is the invariant before the first point. -/
theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl, PhiA_eq]
  unfold PhiS
  iintro ⟨⟨⟨⟨%d, HS0⟩, ⟨%S, HS1⟩⟩, Hg⟩, HT⟩
  iexists d; iexists S
  isplitr
  · ipureintro; intro h; exact absurd rfl h
  isplitl [HS0]; · iexact HS0
  isplitl [HS1]; · iexact HS1
  isplitl [Hg]; · iexact Hg
  iexact HT

/-- After the last point the invariant gives the scratch buffers back. -/
theorem hout (c : Dev nD) : (dats m 0 c).Φ (Fin.last (cfgM m).N) ⊢ Pipeline.ΦA spec0 c := by
  rw [show (dats m 0 c).Φ (Fin.last (cfgM m).N) = PhiS m c (cfgM m).N (Nat.le_refl _) from rfl, PhiA_eq]
  unfold PhiS
  iintro ⟨%d, %S, %h, HS0, HS1, Hg, -⟩
  isplitl [HS0 HS1]
  · isplitl [HS0]
    · iexists _; iexact HS0
    iexists _; iexact HS1
  iexact Hg

/-! ## The run -/

set_option backward.isDefEq.respectTransparency.types false in
/-- The run of @main: it terminates, every array ends at what the proof data say, every other buffer as the region found
    it, and every semaphore counter at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

/-- A staged input array ends as launched. -/
theorem kept_in {r : PUnit × MemSt nD τ sig (Elt F)} (h : Pipeline.FramePost (Pipeline.pin pcfgs fun _ => adm m) (dats m) 0 (V m) r)
    (c : Dev nD) (w : Fin 8) (hin : ((cfgM m).win w).isOut = false) (b : Ref sig .tc) (hw : Pipeline.arrRef spec0 w = b)
    (hb : b ≠ main_v0 ∧ b ≠ main_v1 ∧ b ≠ main_v2 ∧ b ≠ main_v3 ∧ b ≠ main_v4 ∧ b ≠ main_v5 ∧ b ≠ main_v6) :
    r.2.mem ((c.tc : Thread nD τ).loc b) = m ((c.tc : Thread nD τ).loc b) := by
  subst hw
  exact ((h c).1 w).trans (((dats m 0 c).arrAt_in w hin _).trans ((A_eq m c w).trans (V_kept m c _ hb)))

/-- An array no window stages ends as launched. -/
theorem kept_rest {r : PUnit × MemSt nD τ sig (Elt F)} (h : Pipeline.FramePost (Pipeline.pin pcfgs fun _ => adm m) (dats m) 0 (V m) r)
    (c : Dev nD) (b : Ref sig .tc) (hr : b ∈ Pipeline.restRefs sig spec0)
    (hb : b ≠ main_v0 ∧ b ≠ main_v1 ∧ b ≠ main_v2 ∧ b ≠ main_v3 ∧ b ≠ main_v4 ∧ b ≠ main_v5 ∧ b ≠ main_v6) :
    r.2.mem ((c.tc : Thread nD τ).loc b) = m ((c.tc : Thread nD τ).loc b) :=
  ((h c).2 b hr).trans (V_kept m c b hb)

/-- The frame: every argument array ends as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨kept_in m h.1 c 6 rfl main_arg0 rfl (by decide), kept_in m h.1 c 0 rfl main_arg1 rfl (by decide),
      kept_rest m h.1 c main_arg2 (by decide) (by decide), kept_rest m h.1 c main_arg3 (by decide) (by decide),
      kept_rest m h.1 c main_arg4 (by decide) (by decide), kept_rest m h.1 c main_arg5 (by decide) (by decide),
      kept_rest m h.1 c main_arg6 (by decide) (by decide), kept_in m h.1 c 4 rfl main_arg7 rfl (by decide),
      kept_rest m h.1 c main_arg8 (by decide) (by decide)⟩, h.2⟩) (run_main m ρ)

end Cert.KernelIdeal.Run

end
-- ==== Proof.Value.Sums.lean ====
/- Sums by segment over the extended reals, and the four windows of 64 segments in which a grid point adds its block to
   them: a segment the block meets lies in exactly one window that the point runs. -/
module

public import Idealize.ShloMosaic.PureOps.Ideal
public import Idealize.ShloMosaic.Lib.Affine
public import Idealize.ShloMosaic.Lib.WordCmp

@[expose] public section

noncomputable section

namespace Cert.Value

open Idealize.ShloMosaic

/-- The sum of `v` over the points whose segment word is `G`. -/
def segSum {N : ℕ} (ids : Fin N → BitVec 32) (G : BitVec 32) (v : Fin N → EReal) : EReal := ∑ n, if ids n = G then v n else 0

/-- A selection by a word comparison for equality is a selection by the equality. -/
theorem select_eq {α : Type} (x y : BitVec 32) (a b : α) : Scalar.select (IntOp.cmpi .eq x y) a b = if x = y then a else b := by
  by_cases h : x = y
  · rw [if_pos h, IntOp.cmpi_eq.2 h]; rfl
  · rw [if_neg h]; exact if_neg fun e => h (IntOp.cmpi_eq.1 e)

/-- What a window at offset `K` of a block beginning at segment `b0` adds for the segment `G`: the block's sum over the
    segment where the segment is one of the window's 64, nothing elsewhere. -/
theorem window_sum {N : ℕ} (K b0 G : BitVec 32) (ids : Fin N → BitVec 32) (v : Fin N → EReal) :
    (∑ w : Fin 64, Scalar.select (IntOp.cmpi .eq G (IntOp.addi b0 (IntOp.addi K (BitVec.ofNat 32 w.val))))
        (∑ n, Scalar.select (IntOp.cmpi .eq (IntOp.subi (IntOp.subi (ids n) b0) K) (BitVec.ofNat 32 w.val)) (v n) 0) 0)
      = if (G - b0 - K).toNat < 64 then segSum ids G v else 0 := by
  simp only [select_eq, IntOp.addi, IntOp.subi]
  have hw : ∀ w : Fin 64, (if G = b0 + (K + BitVec.ofNat 32 w.val) then
        (∑ n, if ids n - b0 - K = BitVec.ofNat 32 w.val then v n else 0) else 0)
      = if w.val = (G - b0 - K).toNat then segSum ids G v else 0 := fun w => by
    have hl := w.isLt
    by_cases h : G = b0 + (K + BitVec.ofNat 32 w.val)
    · have e : G - b0 - K = BitVec.ofNat 32 w.val := by
        generalize BitVec.ofNat 32 w.val = u at h ⊢; bv_omega
      rw [if_pos h, if_pos (by rw [e, BitVec.toNat_ofNat]; omega)]
      refine Finset.sum_congr rfl fun n _ => if_congr ?_ rfl rfl
      rw [← e]; constructor <;> intro q <;> bv_omega
    · rw [if_neg h, if_neg fun e => h ?_]
      have e' : BitVec.ofNat 32 w.val = G - b0 - K := by rw [e, BitVec.ofNat_toNat, BitVec.setWidth_eq]
      rw [e']; bv_omega
  rw [Finset.sum_congr rfl fun w _ => hw w]
  by_cases h : (G - b0 - K).toNat < 64
  · rw [if_pos h, Finset.sum_eq_single (⟨_, h⟩ : Fin 64) (fun w _ hne => if_neg fun e => hne (Fin.ext e))
      (fun hn => absurd (Finset.mem_univ _) hn), if_pos rfl]
  · rw [if_neg h]
    exact Finset.sum_eq_zero fun w _ => if_neg fun e => h (Nat.lt_of_le_of_lt (Nat.le_of_eq e.symm) w.isLt)

/-- A window at offset `64 k` holds a segment exactly when the segment's distance from the block's first is in
    `[64 k, 64 k + 64)`. -/
theorem in_window (G b0 : BitVec 32) (k : ℕ) (hk : k < 4) :
    (G - b0 - BitVec.ofNat 32 (64 * k)).toNat < 64 ↔ 64 * k ≤ (G - b0).toNat ∧ (G - b0).toNat < 64 * k + 64 := by
  generalize G - b0 = r
  have hr := r.isLt
  rw [BitVec.toNat_sub, BitVec.toNat_ofNat]
  omega

/-- The condition of a window is that the block spans its offset, for a span of fewer than 256 segments. -/
theorem window_runs (sp : BitVec 32) (hsp : sp.toNat < 256) (k : ℕ) (hk : k < 4) :
    (Scalar.cmpi .ne (Scalar.extui (Scalar.cmpi .sge sp (BitVec.ofNat 32 (64 * k)))) 0#32 = 1#1) ↔ 64 * k ≤ sp.toNat := by
  have hb : ∀ b : BitVec 1, Scalar.cmpi .ne (Scalar.extui b : BitVec 32) 0#32 = 1#1 ↔ b = 1#1 := by decide
  rw [hb]
  refine IntOp.cmpi_sge.trans ?_
  rw [BitVec.toInt_eq_toNat_of_lt (by rw [BitVec.toNat_ofNat]; omega), BitVec.toInt_eq_toNat_of_lt (by omega), BitVec.toNat_ofNat]
  omega

/-- The four windows together add the block's sum over the segment `G`, whatever the sum before, when the segments that
    the block meets are within its span. -/
theorem windows_total {N : ℕ} (b0 sp G : BitVec 32) (ids : Fin N → BitVec 32) (v : Fin N → EReal) (d : EReal)
    (c1 c2 c3 : Prop) [Decidable c1] [Decidable c2] [Decidable c3]
    (h1 : sp.toNat < 256 → (c1 ↔ 64 ≤ sp.toNat)) (h2 : sp.toNat < 256 → (c2 ↔ 128 ≤ sp.toNat)) (h3 : sp.toNat < 256 → (c3 ↔ 192 ≤ sp.toNat))
    (hspan : ∀ n, ids n = G → (G - b0).toNat ≤ sp.toNat ∧ sp.toNat < 256) (W : BitVec 32 → EReal → EReal)
    (hW : ∀ K e, W K e = e + if (G - b0 - K).toNat < 64 then segSum ids G v else 0) :
    (let d1 := W 0#32 d
     let d2 := if c1 then W 64#32 d1 else d1
     let d3 := if c2 then W 128#32 d2 else d2
     if c3 then W 192#32 d3 else d3) = d + segSum ids G v := by
  have w0 := in_window G b0 0 (by decide)
  have w1 := in_window G b0 1 (by decide)
  have w2 := in_window G b0 2 (by decide)
  have w3 := in_window G b0 3 (by decide)
  simp only [Nat.reduceMul] at w0 w1 w2 w3
  simp only [hW, w0, w1, w2, w3]
  by_cases hex : ∃ n, ids n = G
  · obtain ⟨n, hn⟩ := hex
    obtain ⟨hr, hs⟩ := hspan n hn
    simp only [h1 hs, h2 hs, h3 hs]
    generalize (G - b0).toNat = r at hr
    generalize sp.toNat = s at hr hs
    rcases (by omega : r < 64 ∨ (64 ≤ r ∧ r < 128) ∨ (128 ≤ r ∧ r < 192) ∨ 192 ≤ r) with h | h | h | h
    all_goals
      split_ifs <;> first | omega | simp only [add_zero]
  · have hT : segSum ids G v = 0 := Finset.sum_eq_zero fun n _ => if_neg fun e => hex ⟨n, e⟩
    simp only [hT, ite_self, add_zero]

end Cert.Value

end
-- ==== Proof.Value.Spec.lean ====
/- The layer's result as one function of its arrays, over the extended reals: what both programs are shown to compute. -/
module

public import proofs.«01_k».proof.Proof.Value.Sums

@[expose] public section

noncomputable section

namespace Cert.Value

open Idealize.ShloMosaic

/-- The larger of a number and its hundredth. -/
def leaky (h : EReal) : EReal := max h (Ideal.ofBits .f32 0x3C23D70A#32 * h)

/-- The arrays that the result is computed from. -/
structure Args where
  /-- The segment of each node. -/
  ids : Fin 100000 → BitVec 32
  /-- The row of each node. -/
  x : Fin 100000 → Fin 128 → EReal
  /-- The previous row of each segment. -/
  prev : Fin 256 → Fin 128 → EReal
  /-- The gate's column. -/
  gate : Fin 128 → EReal
  /-- The feature transform. -/
  feat : Fin 128 → Fin 128 → EReal
  /-- The output transform. -/
  trans : Fin 256 → Fin 128 → EReal
  /-- The output transform's bias. -/
  bias : Fin 128 → EReal

/-- The word of segment `g`. -/
abbrev segWord (g : Fin 256) : BitVec 32 := BitVec.ofNat 32 g.val

namespace Args

variable (A : Args)

/-- The weight of node `n`, before the division by its segment's sum. -/
def weight (n : Fin 100000) : EReal := Ideal.exp (∑ k, A.gate k * A.x n k)

/-- Feature `l` of node `n`. -/
def feature (n : Fin 100000) (l : Fin 128) : EReal := leaky (∑ k, A.x n k * A.feat k l)

/-- What segment `g`'s weights are divided by. -/
def denom (g : Fin 256) : EReal := segSum A.ids (segWord g) A.weight + Ideal.ofBits .f32 0x24E69595#32

/-- Segment `g`'s weighted sum of feature `l`, divided. -/
def pooled (g : Fin 256) (l : Fin 128) : EReal :=
  Ideal.div (segSum A.ids (segWord g) fun n => A.weight n * A.feature n l) (A.denom g)

/-- The output transform of segment `g`'s pooled and previous rows, from the pooled rows `P`. -/
def mixed (P : Fin 256 → Fin 128 → EReal) (g : Fin 256) (l : Fin 128) : EReal :=
  (∑ k : Fin 128, P g k * A.trans (Fin.castLE (by decide) k) l + ∑ k : Fin 128, A.prev g k * A.trans (Fin.natAdd 128 k) l) + A.bias l

/-- The result at segment `g`, feature `l`. -/
def out (g : Fin 256) (l : Fin 128) : EReal := leaky (A.mixed A.pooled g l) + A.prev g l

/-- The segments are numbered below 256 and the nodes come in the order of their segments. -/
def Sorted : Prop := (∀ n, (A.ids n).toNat < 256) ∧ ∀ n n' : Fin 100000, n ≤ n' → (A.ids n).toNat ≤ (A.ids n').toNat

end Args

end Cert.Value

end
-- ==== Proof.Value.Window.lean ====
/- One window of 64 segments, over the extended reals: what the kernel's body adds to its two scratch buffers, read at an
   index. The printed body has four copies of a window, at the offsets 0, 64, 128 and 192; `winD` and `winS` are the one
   function of the offset that they all are. -/
module

public import proofs.«01_k».proof.Proof.RunIdeal.Launch
public import proofs.«01_k».proof.Proof.Value.Spec
public import Idealize.ShloMosaic.Lib.Pointwise

@[expose] public section

set_option maxRecDepth 16384

noncomputable section

namespace Cert.KernelIdeal.Value

open Idealize.ShloMosaic Idealize.ShloMosaic.TcCoe
open Cert.KernelIdeal Cert.KernelIdeal.Gen Cert.KernelIdeal.Run

/-- The weights of the points, kept in row `w` where the point's segment is the window's `w`-th, zero elsewhere. -/
def winE (K : BitVec 32) (e : FVec Ideal S1x20000 .f32) (lo : IVec S1x20000 32) : FVec Ideal S64x20000 .f32 :=
  select (cmpi .eq (broadcastTo S64x20000 (subi lo (broadcast S1x20000 K)) broadcasts_S1x20000_S64x20000)
      (iota .tc S64x20000 32 [0] iota_S64x20000_d0_w32))
    (broadcastTo S64x20000 (shapeCast S1x20000 e shapeCasts_S1x20000_S1x20000) broadcasts_S1x20000_S64x20000)
    (broadcast S64x20000 (Scalar.ofBits (F := Ideal) .f32 0x00000000#32))

/-- One at (segment, `w`) where the window's `w`-th segment is that segment, zero elsewhere. -/
def winHot (K b0 : BitVec 32) : FVec Ideal S256x64 .f32 :=
  select (cmpi .eq (iota .tc S256x64 32 [0] iota_S256x64_d0_w32)
      (addi (broadcast S256x64 b0) (addi (broadcast S256x64 K) (iota .tc S256x64 32 [1] iota_S256x64_d1_w32))))
    (broadcast S256x64 (Scalar.ofBits (F := Ideal) .f32 0x3F800000#32))
    (broadcast S256x64 (Scalar.ofBits (F := Ideal) .f32 0x00000000#32))

/-- The sums of the weights after the window at offset `K`. -/
def winD (K b0 : BitVec 32) (e : FVec Ideal S1x20000 .f32) (lo : IVec S1x20000 32) (d : FVec Ideal S256x1 .f32) : FVec Ideal S256x1 .f32 :=
  shapeCast S256x1 (addf d (matmul dot_S256x64_S64x1_S256x1_1_0_0_1_n_n none (winHot K b0)
    (shapeCast S64x1 (multiReduction .add [1] S64 (winE K e lo) 0x00000000#32 reduces_S64x20000_S64 (.inl rfl) rfl) shapeCasts_S64_S64x1)
    (constant S256x1 .f32 0x00000000#32))) shapeCasts_S256x1_S256x1

/-- The sums of the weighted rows after the window at offset `K`. -/
def winS (K b0 : BitVec 32) (e : FVec Ideal S1x20000 .f32) (lo : IVec S1x20000 32) (f : FVec Ideal S20000x128 .bf16)
    (S : FVec Ideal S256x128 .f32) : FVec Ideal S256x128 .f32 :=
  shapeCast S256x128 (addf S (matmul dot_S256x64_S64x128_S256x128_1_0_0_1_n_n none (winHot K b0)
    (matmul dot_S64x20000_S20000x128_S64x128_1_0_0_1_n_n none (truncf .bf16 (winE K e lo) bitsLt_bf16_f32) f
      (constant S64x128 .f32 0x00000000#32))
    (constant S256x128 .f32 0x00000000#32))) shapeCasts_S256x128_S256x128

/-- A grid point's step of the sums of the weights is the first window and the later windows that the block spans. -/
theorem stepD_eq (i : grid0.Coords) (x : FVec Ideal S20000x128 .f32) (seg : IVec S1x1x20000 32) (gw : FVec Ideal S128x1 .bf16)
    (b0 sp : BitVec 32) (d : FVec Ideal S256x1 .f32) :
    stepD (F := Ideal) i x seg gw b0 sp d
      = (let e := k0_pay5 (F := Ideal) x gw
         let lo := k0_pay6 (F := Ideal) seg b0
         let d1 := winD 0#32 b0 e lo (if condInit i then k0_pay1 (F := Ideal) else d)
         let d2 := if condWin 64#32 sp then winD 64#32 b0 e lo d1 else d1
         let d3 := if condWin 128#32 sp then winD 128#32 b0 e lo d2 else d2
         if condWin 192#32 sp then winD 192#32 b0 e lo d3 else d3) := rfl

/-- A grid point's step of the sums of the weighted rows, likewise. -/
theorem stepS_eq (i : grid0.Coords) (x : FVec Ideal S20000x128 .f32) (seg : IVec S1x1x20000 32) (gw : FVec Ideal S128x1 .bf16)
    (fw : FVec Ideal S128x128 .bf16) (b0 sp : BitVec 32) (S : FVec Ideal S256x128 .f32) :
    stepS (F := Ideal) i x seg gw fw b0 sp S
      = (let e := k0_pay5 (F := Ideal) x gw
         let lo := k0_pay6 (F := Ideal) seg b0
         let f := k0_pay4 (F := Ideal) x fw
         let S1 := winS 0#32 b0 e lo f (if condInit i then k0_pay2 (F := Ideal) else S)
         let S2 := if condWin 64#32 sp then winS 64#32 b0 e lo f S1 else S1
         let S3 := if condWin 128#32 sp then winS 128#32 b0 e lo f S2 else S2
         if condWin 192#32 sp then winS 192#32 b0 e lo f S3 else S3) := rfl

/-- The word of segment `g`. -/
abbrev segWord (g : Fin 256) : BitVec 32 := Cert.Value.segWord g

/-- The weight of the block's point `n`. -/
def blkE (x : FVec Ideal S20000x128 .f32) (gw : FVec Ideal S128x1 .bf16) (n : Fin 20000) : EReal :=
  Ideal.exp (∑ k : Fin 128, gw (ix2 k 0) * x (ix2 n k))

/-- Feature `l` of the block's point `n`. -/
def blkF (x : FVec Ideal S20000x128 .f32) (fw : FVec Ideal S128x128 .bf16) (n : Fin 20000) (l : Fin 128) : EReal :=
  max (∑ k : Fin 128, x (ix2 n k) * fw (ix2 k l)) (Ideal.ofBits .f32 0x3C23D70A#32 * ∑ k : Fin 128, x (ix2 n k) * fw (ix2 k l))

/-- A window of the sums of the weights adds the block's weights of segment `g` where the segment is in the window. -/
theorem winD_at (K b0 : BitVec 32) (x : FVec Ideal S20000x128 .f32) (gw : FVec Ideal S128x1 .bf16) (seg : IVec S1x1x20000 32)
    (d : FVec Ideal S256x1 .f32) (g : Fin 256) :
    winD K b0 (k0_pay5 (F := Ideal) x gw) (k0_pay6 (F := Ideal) seg b0) d (ix2 g 0)
      = d (ix2 g 0) + if (segWord g - b0 - K).toNat < 64
          then Cert.Value.segSum (fun n : Fin 20000 => seg (ix3 0 0 n)) (segWord g) (blkE x gw) else 0 := by
  rw [← Cert.Value.window_sum]
  pointwise [winD, winHot, winE, k0_pay5, k0_pay3, k0_pay6, blkE]

/-- A window of the sums of the weighted rows adds the block's weighted features of segment `g` where the segment is in the
    window. -/
theorem winS_at (K b0 : BitVec 32) (x : FVec Ideal S20000x128 .f32) (gw : FVec Ideal S128x1 .bf16) (fw : FVec Ideal S128x128 .bf16)
    (seg : IVec S1x1x20000 32) (S : FVec Ideal S256x128 .f32) (g : Fin 256) (l : Fin 128) :
    winS K b0 (k0_pay5 (F := Ideal) x gw) (k0_pay6 (F := Ideal) seg b0) (k0_pay4 (F := Ideal) x fw) S (ix2 g l)
      = S (ix2 g l) + if (segWord g - b0 - K).toNat < 64
          then Cert.Value.segSum (fun n : Fin 20000 => seg (ix3 0 0 n)) (segWord g) (fun n => blkE x gw n * blkF x fw n l) else 0 := by
  rw [← Cert.Value.window_sum]
  pointwise [winS, winHot, winE, k0_pay5, k0_pay4, k0_pay3, k0_pay6, blkE, blkF]

/-- A grid point adds to the sums of the weights, zeroed at the first point, the block's weights of segment `g`: every
    segment that the block meets is in one of the windows that the point runs. -/
theorem stepD_at (i : grid0.Coords) (x : FVec Ideal S20000x128 .f32) (seg : IVec S1x1x20000 32) (gw : FVec Ideal S128x1 .bf16)
    (b0 sp : BitVec 32) (d : FVec Ideal S256x1 .f32) (g : Fin 256)
    (hspan : ∀ n : Fin 20000, seg (ix3 0 0 n) = segWord g → (segWord g - b0).toNat ≤ sp.toNat ∧ sp.toNat < 256) :
    stepD (F := Ideal) i x seg gw b0 sp d (ix2 g 0)
      = (if condInit i then 0 else d (ix2 g 0)) + Cert.Value.segSum (fun n : Fin 20000 => seg (ix3 0 0 n)) (segWord g) (blkE x gw) := by
  have h0 : (if condInit i then k0_pay1 (F := Ideal) else d) (ix2 g 0) = if condInit i then 0 else d (ix2 g 0) := by
    split_ifs
    · pointwise [k0_pay1]
    · rfl
  rw [stepD_eq, ← h0]
  simp only [ite_apply, winD_at]
  exact Cert.Value.windows_total b0 sp (segWord g) (fun n : Fin 20000 => seg (ix3 0 0 n)) (blkE x gw) _ _ _ _
    (fun h => Cert.Value.window_runs sp h 1 (by decide)) (fun h => Cert.Value.window_runs sp h 2 (by decide))
    (fun h => Cert.Value.window_runs sp h 3 (by decide)) hspan
    (fun K e => e + if (segWord g - b0 - K).toNat < 64 then _ else 0) (fun _ _ => rfl)

/-- A grid point adds to the sums of the weighted rows, zeroed at the first point, the block's weighted features of
    segment `g`. -/
theorem stepS_at (i : grid0.Coords) (x : FVec Ideal S20000x128 .f32) (seg : IVec S1x1x20000 32) (gw : FVec Ideal S128x1 .bf16)
    (fw : FVec Ideal S128x128 .bf16) (b0 sp : BitVec 32) (S : FVec Ideal S256x128 .f32) (g : Fin 256) (l : Fin 128)
    (hspan : ∀ n : Fin 20000, seg (ix3 0 0 n) = segWord g → (segWord g - b0).toNat ≤ sp.toNat ∧ sp.toNat < 256) :
    stepS (F := Ideal) i x seg gw fw b0 sp S (ix2 g l)
      = (if condInit i then 0 else S (ix2 g l))
        + Cert.Value.segSum (fun n : Fin 20000 => seg (ix3 0 0 n)) (segWord g) (fun n => blkE x gw n * blkF x fw n l) := by
  have h0 : (if condInit i then k0_pay2 (F := Ideal) else S) (ix2 g l) = if condInit i then 0 else S (ix2 g l) := by
    split_ifs
    · pointwise [k0_pay2]
    · rfl
  rw [stepS_eq, ← h0]
  simp only [ite_apply, winS_at]
  exact Cert.Value.windows_total b0 sp (segWord g) (fun n : Fin 20000 => seg (ix3 0 0 n)) _ _ _ _ _
    (fun h => Cert.Value.window_runs sp h 1 (by decide)) (fun h => Cert.Value.window_runs sp h 2 (by decide))
    (fun h => Cert.Value.window_runs sp h 3 (by decide)) hspan
    (fun K e => e + if (segWord g - b0 - K).toNat < 64 then _ else 0) (fun _ _ => rfl)

/-- The result at segment `g` and feature `l`, from the scratch contents. -/
theorem outVal_at (tw : FVec Ideal S256x128 .f32) (tb : FVec Ideal S1x128 .f32) (xgp : FVec Ideal S256x128 .f32) (d : FVec Ideal S256x1 .f32)
    (S : FVec Ideal S256x128 .f32) (g : Fin 256) (l : Fin 128) :
    outVal (F := Ideal) tw tb xgp d S (ix2 g l)
      = (let h := (∑ k : Fin 128, Ideal.div (S (ix2 g k)) (d (ix2 g 0) + Ideal.ofBits .f32 0x24E69595#32) * tw (ix2 (Fin.castLE (by decide) k) l)
            + ∑ k : Fin 128, xgp (ix2 g k) * tw (ix2 (Fin.natAdd 128 k) l)) + tb (ix2 0 l)
         max h (Ideal.ofBits .f32 0x3C23D70A#32 * h) + xgp (ix2 g l)) := by
  pointwise [outVal, half, k0_pay25]
  rfl

end Cert.KernelIdeal.Value

end
-- ==== Proof.Value.Blocks.lean ====
/- What the kernel's windows and tables hold, read off the arguments: the blocks of the points' rows and of their segment
   ids, the whole transforms, and the tables of the blocks' first segments and spans. -/
module

public import proofs.«01_k».proof.Proof.RunIdeal.Launch
public import proofs.«01_k».proof.Proof.Value.Window
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Value

open Idealize.ShloMosaic Idealize.ShloMosaic.TcCoe
open Cert.KernelIdeal Cert.KernelIdeal.Gen Cert.KernelIdeal.Run
open Idealize.ShloMosaic.Pipeline (Dat Cfg Window)

variable (m : (ℓ : Loc nD τ sig) → Buf (Elt Ideal) ℓ) (c : Dev nD)

/-! ## The arguments, and what the region finds in the windows' arrays and tables -/

/-- The rows, one per node. -/
abbrev argX : FVec Ideal S100000x128 .f32 := m ((c : Thread nD τ).loc main_arg1)
/-- The nodes' segment ids. -/
abbrev argIds : IVec S100000 32 := m ((c : Thread nD τ).loc main_arg2)
/-- The previous global features, one row per segment. -/
abbrev argPrev : FVec Ideal S256x128 .f32 := m ((c : Thread nD τ).loc main_arg0)
/-- The gate's column. -/
abbrev argGate : FVec Ideal S128x1 .f32 := m ((c : Thread nD τ).loc main_arg3)
/-- The feature transform. -/
abbrev argFeat : FVec Ideal S128x128 .f32 := m ((c : Thread nD τ).loc main_arg5)
/-- The output transform. -/
abbrev argOut : FVec Ideal S256x128 .f32 := m ((c : Thread nD τ).loc main_arg7)
/-- The output transform's bias. -/
abbrev argBias : FVec Ideal S128 .f32 := m ((c : Thread nD τ).loc main_arg8)

/-- The launch finds the segment ids by blocks of 20000. -/
theorem V_v0 : V m c main_v0 = shapeCast S5x1x20000 (argIds m c) shapeCasts_S100000_S5x1x20000 := rfl
/-- The launch finds the first id of each block in the first table. -/
theorem V_v1 : V m c main_v1 = Host.slice S5 ![0] ![20000] (argIds m c) slicesBy_S100000_S5_0s20000 := rfl
/-- The launch finds the last id of each block less its first in the second table. -/
theorem V_v3 : V m c main_v3 = subi (Host.slice S5 ![19999] ![20000] (argIds m c) slicesBy_S100000_S5_19999s20000)
    (Host.slice S5 ![0] ![20000] (argIds m c) slicesBy_S100000_S5_0s20000) := rfl
/-- The launch finds the gate rounded. -/
theorem V_v4 : V m c main_v4 = truncf .bf16 (argGate m c) := rfl
/-- The launch finds the feature transform rounded. -/
theorem V_v5 : V m c main_v5 = truncf .bf16 (argFeat m c) := rfl
/-- The launch finds the bias as a row. -/
theorem V_v6 : V m c main_v6 = shapeCast S1x128 (argBias m c) shapeCasts_S128_S1x128 := rfl

/-! ## Where each point's block lies -/

/-- A point's coordinate is its number. -/
theorem coord_val (t : Fin grid0.N) : (grid0.coords t 0).val = t.val := by
  have ht : t.val < 5 := Nat.lt_of_lt_of_eq t.isLt N_0
  have e0 : (grid0.coords t 0).val = t.val / 1 % 5 := Pipeline.Grid.coords_val t 0 (by decide) rfl
  omega

/-- The word of a point's coordinate is its number. -/
theorem word_val (t : Fin grid0.N) : (BitVec.ofNat 32 (grid0.coords t 0).val).toNat = t.val := by
  have ht : t.val < 5 := Nat.lt_of_lt_of_eq t.isLt N_0
  rw [coord_val, BitVec.toNat_ofNat]; omega

/-- Point `t` takes the rows' block `t`. -/
theorem idx0 (t : Fin (cfgM m).N) : ((cfgM m).win 0).index t = ![t.val, 0] := by
  show cc0_transform_0 (grid0.coords t) = _
  unfold cc0_transform_0
  funext a; fin_cases a
  · exact word_val t
  · rfl

/-- Point `t` takes the ids' block `t`. -/
theorem idx1 (t : Fin (cfgM m).N) : ((cfgM m).win 1).index t = ![t.val, 0, 0] := by
  show cc0_transform_1 (grid0.coords t) = _
  unfold cc0_transform_1
  funext a; fin_cases a
  · exact word_val t
  · rfl
  · rfl

/-! ## The blocks -/

/-- Row `n` of point `t`'s block is node `20000 t + n`'s row. -/
theorem blk0 (t : Fin (cfgM m).N) (n : Fin 20000) (k : Fin 128) (h : t.val * 20000 + n.val < 100000) :
    (show FVec Ideal S20000x128 .f32 from iblk m c 0 t) (ix2 n k) = argX m c (ix2 ⟨t.val * 20000 + n.val, h⟩ k) := by
  have hV : V m c main_arg1 = argX m c := V_kept m c main_arg1 (by decide)
  have e : (((cfgM m).win 0).blk t).view.emb (ix2 n k) = ix2 ⟨t.val * 20000 + n.val, h⟩ k := by
    funext a; apply Fin.ext
    refine (Window.rect_emb_val ((cfgM m).win 0) t (ix2 n k) a).trans ?_
    rw [idx0]
    fin_cases a
    · rfl
    · show 0 * 128 + k.val = k.val; omega
  show V m c main_arg1 ((((cfgM m).win 0).blk t).view.emb (ix2 n k)) = _
  rw [hV, e]

/-- Entry `n` of point `t`'s block of segment ids is node `20000 t + n`'s. -/
theorem blk1 (t : Fin (cfgM m).N) (n : Fin 20000) (h : t.val * 20000 + n.val < 100000) :
    (show IVec S1x1x20000 32 from iblk m c 1 t) (ix3 0 0 n) = argIds m c (ix1 ⟨t.val * 20000 + n.val, h⟩) := by
  have ht : t.val < 5 := Nat.lt_of_lt_of_eq t.isLt N_0
  have e : (((cfgM m).win 1).blk t).view.emb (ix3 0 0 n) = ix3 ⟨t.val, ht⟩ 0 n := by
    funext a; apply Fin.ext
    refine (Window.rect_emb_val ((cfgM m).win 1) t (ix3 0 0 n) a).trans ?_
    rw [idx1]
    fin_cases a
    · show t.val * 1 + 0 = t.val; omega
    · rfl
    · show 0 * 20000 + n.val = n.val; omega
  show V m c main_v0 ((((cfgM m).win 1).blk t).view.emb (ix3 0 0 n)) = _
  rw [V_v0, e]
  pointwise

/-- The gate's column comes whole to every point. -/
theorem blk2 (t : Fin (cfgM m).N) : (show FVec Ideal S128x1 .bf16 from iblk m c 2 t) = argGate m c := by
  funext y
  have e : (((cfgM m).win 2).blk t).view.emb y = y := by
    funext a; apply Fin.ext
    exact Window.rect_emb_val_of_index_zero ((cfgM m).win 2) t a (by fin_cases a <;> rfl) y
  show V m c main_v4 ((((cfgM m).win 2).blk t).view.emb y) = _
  rw [V_v4, e]; rfl

/-- The feature transform comes whole to every point. -/
theorem blk3 (t : Fin (cfgM m).N) : (show FVec Ideal S128x128 .bf16 from iblk m c 3 t) = argFeat m c := by
  funext y
  have e : (((cfgM m).win 3).blk t).view.emb y = y := by
    funext a; apply Fin.ext
    exact Window.rect_emb_val_of_index_zero ((cfgM m).win 3) t a (by fin_cases a <;> rfl) y
  show V m c main_v5 ((((cfgM m).win 3).blk t).view.emb y) = _
  rw [V_v5, e]; rfl

/-- The output transform comes whole to every point. -/
theorem blk4 (t : Fin (cfgM m).N) : (show FVec Ideal S256x128 .f32 from iblk m c 4 t) = argOut m c := by
  funext y
  have e : (((cfgM m).win 4).blk t).view.emb y = y := by
    funext a; apply Fin.ext
    exact Window.rect_emb_val_of_index_zero ((cfgM m).win 4) t a (by fin_cases a <;> rfl) y
  show V m c main_arg7 ((((cfgM m).win 4).blk t).view.emb y) = _
  rw [V_kept m c main_arg7 (by decide), e]

/-- The output transform's bias comes whole to every point, as a row. -/
theorem blk5 (t : Fin (cfgM m).N) (l : Fin 128) :
    (show FVec Ideal S1x128 .f32 from iblk m c 5 t) (ix2 0 l) = argBias m c (ix1 l) := by
  have e : (((cfgM m).win 5).blk t).view.emb (ix2 0 l) = ix2 0 l := by
    funext a; apply Fin.ext
    exact Window.rect_emb_val_of_index_zero ((cfgM m).win 5) t a (by fin_cases a <;> rfl) (ix2 0 l)
  show V m c main_v6 ((((cfgM m).win 5).blk t).view.emb (ix2 0 l)) = _
  rw [V_v6, e]
  pointwise

/-- The previous global features come whole to every point. -/
theorem blk6 (t : Fin (cfgM m).N) : (show FVec Ideal S256x128 .f32 from iblk m c 6 t) = argPrev m c := by
  funext y
  have e : (((cfgM m).win 6).blk t).view.emb y = y := by
    funext a; apply Fin.ext
    exact Window.rect_emb_val_of_index_zero ((cfgM m).win 6) t a (by fin_cases a <;> rfl) y
  show V m c main_arg0 ((((cfgM m).win 6).blk t).view.emb y) = _
  rw [V_kept m c main_arg0 (by decide), e]

/-! ## The tables -/

/-- The slot of a table that point `t` reads. -/
abbrev slot (t : Fin grid0.N) : S5.Idx :=
  (Rect.unit (s := S5) (k0_off1 (grid0.coords t)) S1.size (k0_off1_inb _)).idx (Shape.Idx.first (numel1_S1.symm ▸ Nat.one_pos))

/-- Point `t` reads slot `t`. -/
theorem slot_eq (t : Fin grid0.N) : slot t = ix1 ⟨t.val, Nat.lt_of_lt_of_eq t.isLt N_0⟩ := by
  funext a; apply Fin.ext; fin_cases a
  show k0_off1 (grid0.coords t) 0 + 1 * 0 = t.val
  have e : k0_off1 (grid0.coords t) 0 = t.val := word_val t
  omega

/-- The first table's word at point `t` is the block's first segment id. -/
theorem tword0 (t : Fin grid0.N) (h : t.val * 20000 < 100000) :
    tword c (grid0.coords t) tbM0 (tbl m 0) = argIds m c (ix1 ⟨t.val * 20000, h⟩) := by
  obtain rfl : c = 0 := Subsingleton.elim _ _
  show V m 0 main_v1 (slot t) = _
  rw [slot_eq, V_v1]
  pointwise
  simp only [Nat.mul_comm 20000, Nat.add_comm 19999]

/-- The second table's word at point `t` is the block's last segment id less its first. -/
theorem tword1 (t : Fin grid0.N) (h : t.val * 20000 < 100000) (h' : t.val * 20000 + 19999 < 100000) :
    tword c (grid0.coords t) tbM1 (tbl m 1)
      = argIds m c (ix1 ⟨t.val * 20000 + 19999, h'⟩) - argIds m c (ix1 ⟨t.val * 20000, h⟩) := by
  obtain rfl : c = 0 := Subsingleton.elim _ _
  show V m 0 main_v3 (slot t) = _
  rw [slot_eq, V_v3]
  pointwise
  simp only [Nat.mul_comm 20000, Nat.add_comm 19999]
  rfl

end Cert.KernelIdeal.Value

end
-- ==== Proof.Value.Kernel.lean ====
/- The kernel's result: the two scratch buffers' sums over the five points are the sums over all the nodes, and the last
   point stores the layer's result computed from them. -/
module

public import proofs.«01_k».proof.Proof.Value.Blocks

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open Idealize.ShloMosaic.Pipeline (Dat Cfg Window)
open Cert.Value (segSum Args)

variable (m : (ℓ : Loc nD τ sig) → Buf (Elt Ideal) ℓ) (ρ : Dev nD → PrngReg) (c : Dev nD)

/-- The arrays as launched. -/
def args : Args where
  ids n := argIds m c (ix1 n)
  x n k := argX m c (ix2 n k)
  prev g k := argPrev m c (ix2 g k)
  gate k := argGate m c (ix2 k 0)
  feat k l := argFeat m c (ix2 k l)
  trans k l := argOut m c (ix2 k l)
  bias l := argBias m c (ix1 l)

/-! ## One point -/

/-- Node `n` of block `t`. -/
abbrev node (t : Fin grid0.N) (n : Fin 20000) : Fin 100000 :=
  ⟨t.val * 20000 + n.val, by have := Nat.lt_of_lt_of_eq t.isLt N_0; have := n.isLt; omega⟩

/-- Block `t`'s sum of `v` over segment `g`. -/
def blockSum (v : Fin 100000 → EReal) (g : Fin 256) (t : Fin grid0.N) : EReal :=
  segSum (fun n => (args m c).ids (node t n)) (segWord g) fun n => v (node t n)

/-- Between a first and a last word below 256, a word's distance from the first is at most the last's. -/
theorem word_span (a b e : BitVec 32) (he : e.toNat < 256) (l1 : b.toNat ≤ a.toNat) (l2 : a.toNat ≤ e.toNat) :
    (a - b).toNat ≤ (e - b).toNat ∧ (e - b).toNat < 256 := by
  rw [BitVec.toNat_sub_of_le (BitVec.le_def.2 l1), BitVec.toNat_sub_of_le (BitVec.le_def.2 (Nat.le_trans l1 l2))]
  omega

/-- The segments that a block meets lie within its span, which is below 256. -/
theorem span (hs : (args m c).Sorted) (t : Fin grid0.N) (g : Fin 256) (n : Fin 20000)
    (h : (args m c).ids (node t n) = segWord g) :
    (segWord g - tword c (grid0.coords t) tbM0 (tbl m 0)).toNat ≤ (tword c (grid0.coords t) tbM1 (tbl m 1)).toNat
      ∧ (tword c (grid0.coords t) tbM1 (tbl m 1)).toNat < 256 := by
  have ht := Nat.lt_of_lt_of_eq t.isLt N_0
  have hn := n.isLt
  rw [tword0 m c t (by omega), tword1 m c t (by omega) (by omega), ← h]
  exact word_span _ _ _ (hs.1 ⟨t.val * 20000 + 19999, by omega⟩)
    (hs.2 ⟨t.val * 20000, by omega⟩ (node t n) (show t.val * 20000 ≤ t.val * 20000 + n.val by omega))
    (hs.2 (node t n) ⟨t.val * 20000 + 19999, by omega⟩ (show t.val * 20000 + n.val ≤ t.val * 20000 + 19999 by omega))

/-! The blocks with the types that the body takes them at. -/

/-- The rows of point `t`'s block. -/
def xBlk (t : Fin grid0.N) : FVec Ideal S20000x128 .f32 := iblk m c 0 t
/-- The segment ids of point `t`'s block. -/
def idBlk (t : Fin grid0.N) : IVec S1x1x20000 32 := iblk m c 1 t
/-- The gate at point `t`. -/
def gateBlk (t : Fin grid0.N) : FVec Ideal S128x1 .bf16 := iblk m c 2 t
/-- The feature transform at point `t`. -/
def featBlk (t : Fin grid0.N) : FVec Ideal S128x128 .bf16 := iblk m c 3 t
/-- The output transform at point `t`. -/
def transBlk (t : Fin grid0.N) : FVec Ideal S256x128 .f32 := iblk m c 4 t
/-- The output transform's bias at point `t`. -/
def biasBlk (t : Fin grid0.N) : FVec Ideal S1x128 .f32 := iblk m c 5 t
/-- The previous rows at point `t`. -/
def prevBlk (t : Fin grid0.N) : FVec Ideal S256x128 .f32 := iblk m c 6 t

/-- `nextD` at the typed blocks. -/
theorem nextD_eq (t : Fin grid0.N) (d : FVec Ideal S256x1 .f32) : nextD m c t d
    = stepD (grid0.coords t) (xBlk m c t) (idBlk m c t) (gateBlk m c t)
        (tword c (grid0.coords t) tbM0 (tbl m 0)) (tword c (grid0.coords t) tbM1 (tbl m 1)) d := rfl
/-- `nextS` at the typed blocks. -/
theorem nextS_eq (t : Fin grid0.N) (S : FVec Ideal S256x128 .f32) : nextS m c t S
    = stepS (grid0.coords t) (xBlk m c t) (idBlk m c t) (gateBlk m c t) (featBlk m c t)
        (tword c (grid0.coords t) tbM0 (tbl m 0)) (tword c (grid0.coords t) tbM1 (tbl m 1)) S := rfl
/-- `resBlk` at the typed blocks. -/
theorem resBlk_eq (t : Fin grid0.N) : resBlk m c t = outVal (transBlk m c t) (biasBlk m c t) (prevBlk m c t)
    (scr m c (t.val + 1) t.isLt).1 (scr m c (t.val + 1) t.isLt).2 := rfl

/-- The blocks' ids are the nodes'. -/
theorem blk_ids (t : Fin grid0.N) (n : Fin 20000) : idBlk m c t (ix3 0 0 n) = (args m c).ids (node t n) := blk1 m c t n _

/-- The blocks' weights are the nodes'. -/
theorem blk_weight (t : Fin grid0.N) (n : Fin 20000) : blkE (xBlk m c t) (gateBlk m c t) n = (args m c).weight (node t n) := by
  unfold blkE Args.weight
  refine congrArg Ideal.exp (Finset.sum_congr rfl fun k _ => ?_)
  exact congrArg₂ (· * ·) (congrFun (blk2 m c t) (ix2 k 0)) (blk0 m c t n k _)

/-- The blocks' features are the nodes'. -/
theorem blk_feature (t : Fin grid0.N) (n : Fin 20000) (l : Fin 128) :
    blkF (xBlk m c t) (featBlk m c t) n l = (args m c).feature (node t n) l := by
  have h : (∑ k : Fin 128, xBlk m c t (ix2 n k) * featBlk m c t (ix2 k l)) = ∑ k, (args m c).x (node t n) k * (args m c).feat k l :=
    Finset.sum_congr rfl fun k _ => congrArg₂ (· * ·) (blk0 m c t n k _) (congrFun (blk3 m c t) (ix2 k l))
  unfold blkF Args.feature Cert.Value.leaky
  exact congrArg (fun s => max s (Ideal.ofBits .f32 0x3C23D70A#32 * s)) h

/-- The output transform comes whole. -/
theorem blk_trans (t : Fin grid0.N) : transBlk m c t = argOut m c := blk4 m c t
/-- The bias comes whole. -/
theorem blk_bias (t : Fin grid0.N) (l : Fin 128) : biasBlk m c t (ix2 0 l) = argBias m c (ix1 l) := blk5 m c t l
/-- The previous rows come whole. -/
theorem blk_prev (t : Fin grid0.N) : prevBlk m c t = argPrev m c := blk6 m c t

attribute [local irreducible] scr nextD nextS xBlk idBlk gateBlk featBlk transBlk biasBlk prevBlk tword

/-- One point adds its block's sum of the weights, to nothing at the first point. -/
theorem nextD_at (hs : (args m c).Sorted) (t : Fin grid0.N) (d : FVec Ideal S256x1 .f32) (g : Fin 256) :
    nextD m c t d (ix2 g 0) = (if t.val = 0 then 0 else d (ix2 g 0)) + blockSum m c (args m c).weight g t := by
  rw [nextD_eq, stepD_at _ _ _ _ _ _ _ g fun n h => span m c hs t g n ((blk_ids m c t n).symm.trans h)]
  unfold blockSum segSum
  simp only [condInit_iff, blk_ids, blk_weight]

/-- One point adds its block's sum of the weighted features, to nothing at the first point. -/
theorem nextS_at (hs : (args m c).Sorted) (t : Fin grid0.N) (S : FVec Ideal S256x128 .f32) (g : Fin 256) (l : Fin 128) :
    nextS m c t S (ix2 g l) = (if t.val = 0 then 0 else S (ix2 g l))
      + blockSum m c (fun n => (args m c).weight n * (args m c).feature n l) g t := by
  rw [nextS_eq, stepS_at _ _ _ _ _ _ _ _ g l fun n h => span m c hs t g n ((blk_ids m c t n).symm.trans h)]
  unfold blockSum segSum
  simp only [condInit_iff, blk_ids, blk_weight, blk_feature]

/-! ## All the points -/

/-- A quantity that starts from nothing at the first point and gains a term at each is, after the points, the sum of the
    terms. -/
theorem run_sum (f : (n : ℕ) → n ≤ grid0.N → EReal) (term : Fin grid0.N → EReal)
    (h : ∀ n (hn : n < grid0.N), f (n + 1) hn = (if n = 0 then 0 else f n (Nat.le_of_lt hn)) + term ⟨n, hn⟩) :
    f grid0.N (Nat.le_refl _) = ∑ t, term t := by
  have key : ∀ n (hn : n ≤ grid0.N), (if n = 0 then 0 else f n hn) = ∑ i : Fin n, term (Fin.castLE hn i) := by
    intro n; induction n with
    | zero => intro _; simp
    | succ n ih =>
      intro hn
      rw [if_neg (Nat.succ_ne_zero n), h n hn, ih (Nat.le_of_lt hn), Fin.sum_univ_castSucc]
      rfl
  have e := key grid0.N (Nat.le_refl _)
  rw [if_neg (by rw [N_0]; decide)] at e
  exact e

/-- The blocks' sums over a segment are together the sum over the segment. -/
theorem blocks_total (v : Fin 100000 → EReal) (g : Fin 256) :
    ∑ t, blockSum m c v g t = segSum (args m c).ids (segWord g) v := by
  unfold segSum
  rw [Fin.sum_univ_tiles 5 20000 rfl fun n => if (args m c).ids n = segWord g then v n else 0]
  exact Fintype.sum_equiv (finCongr N_0) _ _ fun t => rfl

/-- After the points the first scratch buffer holds the segments' sums of the weights. -/
theorem scr_D (hs : (args m c).Sorted) (g : Fin 256) :
    (scr m c (cfgM m).N (Nat.le_refl _)).1 (ix2 g 0) = segSum (args m c).ids (segWord g) (args m c).weight := by
  rw [← blocks_total]
  exact run_sum (fun n hn => (scr m c n hn).1 (ix2 g 0)) _ fun n hn => by
    rw [scr_succ]; exact nextD_at m c hs ⟨n, hn⟩ _ g

/-- After the points the second scratch buffer holds the segments' sums of the weighted features. -/
theorem scr_S (hs : (args m c).Sorted) (g : Fin 256) (l : Fin 128) :
    (scr m c (cfgM m).N (Nat.le_refl _)).2 (ix2 g l)
      = segSum (args m c).ids (segWord g) fun n => (args m c).weight n * (args m c).feature n l := by
  rw [← blocks_total]
  exact run_sum (fun n hn => (scr m c n hn).2 (ix2 g l)) _ fun n hn => by
    rw [scr_succ]; exact nextS_at m c hs ⟨n, hn⟩ _ g l

/-! ## The result -/

/-- The last point's block of the result is the layer's. -/
theorem resBlk_at (hs : (args m c).Sorted) (g : Fin 256) (l : Fin 128) : resBlk m c t0_4 (ix2 g l) = (args m c).out g l := by
  have e : scr m c (t0_4.val + 1) t0_4.isLt = scr m c (cfgM m).N (Nat.le_refl _) := by
    have h : ∀ n (hn : n ≤ (cfgM m).N), n = (cfgM m).N → scr m c n hn = scr m c (cfgM m).N (Nat.le_refl _) := by
      rintro _ _ rfl; rfl
    exact h _ _ N_0.symm
  rw [resBlk_eq, outVal_at, e, scr_D m c hs g, blk_trans, blk_bias, blk_prev]
  simp only [scr_S m c hs]
  rfl

/-- The result as an array. -/
def result : FVec Ideal S256x128 .f32 := fun j => (args m c).out (j 0) (j 1)

/-- The last point's block of the result, as an array. -/
theorem resBlk_eq_result (hs : (args m c).Sorted) : resBlk m c t0_4 = result m c := by
  funext j
  rw [← ix2_eta j]
  exact resBlk_at m c hs (j 0) (j 1)

/-- The result is written back once, whole, at the last point. -/
theorem whole_7 : ((cfgM m).win 7).WholeAt t0_4 :=
  ⟨(flush_7 m t0_4).2 (show 4 % 5 = 4 from rfl), fun t h => Fin.ext (by
    have e := (flush_7 m t).1 h
    have ht : t.val < 5 := Nat.lt_of_lt_of_eq t.isLt N_0
    show t.val = 4; omega), fun a => by fin_cases a <;> exact ⟨rfl, rfl⟩⟩

/-- The result's array after the run. -/
theorem arr_7 (hs : (args m c).Sorted) : (dats m 0 c).arrAt 7 (cfgM m).N = result m c :=
  Dat.arrAt_eq_of_after_last (dat := dats m 0 c) 7 t0_4 (whole_7 m) _ fun j => by
    rw [after_7]
    exact congrFun (resBlk_eq_result m c hs) j

/-- The kernel's run ends with the layer's result in its result array and every argument array as launched. -/
theorem run (hs : ∀ c, (args m c).Sorted) : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h.1 c).1 7).trans (arr_7 m c (hs c)),
      kept_in m h.1 c 6 rfl main_arg0 rfl (by decide), kept_in m h.1 c 0 rfl main_arg1 rfl (by decide),
      kept_rest m h.1 c main_arg2 (by decide) (by decide), kept_rest m h.1 c main_arg3 (by decide) (by decide),
      kept_rest m h.1 c main_arg4 (by decide) (by decide), kept_rest m h.1 c main_arg5 (by decide) (by decide),
      kept_rest m h.1 c main_arg6 (by decide) (by decide), kept_in m h.1 c 4 rfl main_arg7 rfl (by decide),
      kept_rest m h.1 c main_arg8 (by decide) (by decide)⟩) (run_main m ρ)

end Cert.KernelIdeal.Value

end
-- ==== Proof.Value.Scatter.lean ====
/- The reference's two scatters and its gather, read at an index: a scatter onto zeros is the sum by segment, the gather
   takes the entry of the node's segment. -/
module

public import proofs.«01_k».proof.Proof.Gen.ReferenceIdeal
public import proofs.«01_k».proof.Proof.Value.Spec
public import Idealize.ShloMosaic.Lib.Pointwise
public import Idealize.ShloMosaic.Lib.Routing.OpsPair
public import Idealize.ShloMosaic.Lib.Routing.OpsSet

@[expose] public section

set_option maxRecDepth 16384

noncomputable section

namespace Cert.ReferenceIdeal.Value

open Idealize.ShloMosaic
open Cert.ReferenceIdeal Cert.ReferenceIdeal.Gen
open Cert.Value (segSum segWord)

/-- An index word, read signed, is a number below 256 exactly when it is that number's word. -/
theorem toInt_eq_iff (w : BitVec 32) (g : Fin 256) : w.toInt = (g.val : Int) ↔ w = segWord g := by
  have hg := g.isLt
  have e : (segWord g).toInt = (g.val : Int) := by
    rw [BitVec.toInt_eq_toNat_of_lt (by rw [BitVec.toNat_ofNat]; omega), BitVec.toNat_ofNat]; omega
  rw [← e]; exact BitVec.toInt_inj

/-- A scalar update lands at segment `g` exactly when its index is `g`'s word. -/
theorem lands1 (idx : IVec S100000x1 32) (n : Fin 100000) (g : Fin 256) :
    scatter_S256_S100000x1_S100000_n_0_0_1.resultIdx? (ix1 n) idx = some (ix1 g) ↔ idx (ix2 n 0) = segWord g := by
  have hs : scatter_S256_S100000x1_S100000_n_0_0_1.start (ix1 n) idx 0 = (idx (ix2 n 0)).toInt := by
    show (idx _).toInt = _
    refine congrArg (fun j => (idx j).toInt) ?_
    funext b; apply Fin.ext; fin_cases b <;> rfl
  have hw : scatter_S256_S100000x1_S100000_n_0_0_1.window (ix1 n) 0 = 0 := rfl
  rw [Routing.resultIdx?_eq_some, ← toInt_eq_iff, ← hs]
  constructor
  · intro h; have := h 0; rw [hw] at this; simpa using this
  · intro h a; obtain rfl : a = 0 := Subsingleton.elim _ _
    rw [hw]; simpa using h

/-- The feature `k` of a row update lands at segment `g`, feature `l` exactly when its index is `g`'s word and `k` is `l`. -/
theorem lands2 (idx : IVec S100000x1 32) (n : Fin 100000) (k : Fin 128) (g : Fin 256) (l : Fin 128) :
    scatter_S256x128_S100000x1_S100000x128_1_0_0_1.resultIdx? (ix2 n k) idx = some (ix2 g l) ↔ idx (ix2 n 0) = segWord g ∧ k = l := by
  have hs0 : scatter_S256x128_S100000x1_S100000x128_1_0_0_1.start (ix2 n k) idx 0 = (idx (ix2 n 0)).toInt := by
    show (idx _).toInt = _
    refine congrArg (fun j => (idx j).toInt) ?_
    funext b; apply Fin.ext; fin_cases b <;> rfl
  have hs1 : scatter_S256x128_S100000x1_S100000x128_1_0_0_1.start (ix2 n k) idx 1 = 0 := rfl
  have hw0 : scatter_S256x128_S100000x1_S100000x128_1_0_0_1.window (ix2 n k) 0 = 0 := rfl
  have hw1 : scatter_S256x128_S100000x1_S100000x128_1_0_0_1.window (ix2 n k) 1 = k.val := rfl
  rw [Routing.resultIdx?_eq_some, ← toInt_eq_iff, ← hs0]
  constructor
  · intro h
    have h0 := h 0; have h1 := h 1
    rw [hw0] at h0; rw [hs1, hw1] at h1
    exact ⟨by simpa using h0, Fin.ext (by simpa using h1)⟩
  · rintro ⟨h, rfl⟩ a
    fin_cases a
    · show _ + (scatter_S256x128_S100000x1_S100000x128_1_0_0_1.window (ix2 n k) 0 : Int) = _
      rw [hw0]; simpa using h
    · show scatter_S256x128_S100000x1_S100000x128_1_0_0_1.start (ix2 n k) idx 1 + (scatter_S256x128_S100000x1_S100000x128_1_0_0_1.window (ix2 n k) 1 : Int) = (k.val : Int)
      rw [hs1, hw1]; simp

/-- A scatter of scalars onto zeros is the sum by segment. -/
theorem scatter1 (x : FVec Ideal S256 .f32) (hx : ∀ j, x j = 0) (idx : IVec S100000x1 32) (u : FVec Ideal S100000 .f32) (g : Fin 256) :
    Host.scatterAdd scatter_S256_S100000x1_S100000_n_0_0_1 x idx u (ix1 g)
      = segSum (fun n : Fin 100000 => idx (ix2 n 0)) (segWord g) fun n => u (ix1 n) := by
  show x (ix1 g) + ∑ j ∈ Finset.univ.filter (fun j => scatter_S256_S100000x1_S100000_n_0_0_1.resultIdx? j idx = some (ix1 g)), u j = _
  rw [hx, zero_add, Finset.sum_filter, sum_idx1]
  exact Finset.sum_congr rfl fun n _ => if_congr (lands1 idx n g) rfl rfl

/-- A scatter of rows onto zeros is the sum by segment, feature by feature. -/
theorem scatter2 (x : FVec Ideal S256x128 .f32) (hx : ∀ j, x j = 0) (idx : IVec S100000x1 32) (u : FVec Ideal S100000x128 .f32)
    (g : Fin 256) (l : Fin 128) :
    Host.scatterAdd scatter_S256x128_S100000x1_S100000x128_1_0_0_1 x idx u (ix2 g l)
      = segSum (fun n : Fin 100000 => idx (ix2 n 0)) (segWord g) fun n => u (ix2 n l) := by
  show x (ix2 g l) + ∑ j ∈ Finset.univ.filter (fun j => scatter_S256x128_S100000x1_S100000x128_1_0_0_1.resultIdx? j idx = some (ix2 g l)), u j = _
  rw [hx, zero_add, Finset.sum_filter, sum_idx2]
  refine Finset.sum_congr rfl fun n _ => ?_
  simp only [lands2]
  by_cases h : idx (ix2 n 0) = segWord g
  · simp [h]
  · simp [h]

/-- The gather at a node whose index is segment `g`'s word takes the entry of `g`. -/
theorem gather1 (x : FVec Ideal S256 .f32) (idx : IVec S100000x1 32) (n : Fin 100000) (g : Fin 256) (h : idx (ix2 n 0) = segWord g) :
    Host.gather gather_S256_S100000x1_S100000_n_0_n_n_0_1_1 x idx (ix1 n) = x (ix1 g) :=
  Routing.gather_take1 gather_S256_S100000x1_S100000_n_0_n_n_0_1_1 rfl rfl rfl rfl x idx n g h (by decide)

end Cert.ReferenceIdeal.Value

end
-- ==== Proof.Value.Reference.lean ====
/- The reference's result, read at an index. -/
module

public import proofs.«01_k».proof.Proof.Gen.ReferenceIdeal.Run
public import proofs.«01_k».proof.Proof.Value.Scatter

@[expose] public section

set_option maxRecDepth 16384

noncomputable section

namespace Cert.ReferenceIdeal.Value

open Idealize.ShloMosaic Idealize.ShloMosaic.TcCoe
open Cert.ReferenceIdeal Cert.ReferenceIdeal.Gen
open Cert.Value (segSum segWord Args)

/-! ## The stages of the printed term -/

/-- The nodes' weights before the division. -/
def weights (x : FVec Ideal S100000x128 .f32) (gw : FVec Ideal S128x1 .f32) (gb : FVec Ideal S1 .f32) : FVec Ideal S100000 .f32 :=
  Host.exp (shapeCast S100000 (addf (Host.dotGeneral dot_S100000x128_S128x1_S100000x1_1_0_0_1_n_n none x gw)
    (broadcastInDim S100000x1 ![0, 1] bcast_S1x1_S100000x1_0_1 (broadcastInDim S1x1 ![1] bcast_S1_S1x1_1 gb))) shapeCasts_S100000x1_S100000)

/-- The nodes' rows under the feature transform, before the leaky step. -/
def rows (x : FVec Ideal S100000x128 .f32) (fw : FVec Ideal S128x128 .f32) (fb : FVec Ideal S128 .f32) : FVec Ideal S100000x128 .f32 :=
  addf (Host.dotGeneral dot_S100000x128_S128x128_S100000x128_1_0_0_1_n_n none x fw)
    (broadcastInDim S100000x128 ![0, 1] bcast_S1x128_S100000x128_0_1 (broadcastInDim S1x128 ![1] bcast_S128_S1x128_1 fb))

/-- The leaky step on the nodes' rows. -/
def leakyRows (h : FVec Ideal S100000x128 .f32) : FVec Ideal S100000x128 .f32 :=
  select (cmpf .oge h (broadcastInDim S100000x128 ![] bcast_S_S100000x128 (constant S_ .f32 0x00000000#32))) h
    (mulf (broadcastInDim S100000x128 ![] bcast_S_S100000x128 (id (constant S_ .f32 0x3C23D70A#32))) h)

/-- The ids as a column of indices. -/
def column (ids : IVec S100000 32) : IVec S100000x1 32 := broadcastInDim S100000x1 ![0] bcast_S100000_S100000x1_0 ids

/-- The ids with a negative one counted from the end. -/
def wrapped (ids : IVec S100000 32) : IVec S100000 32 :=
  select (cmpi .slt ids (broadcastInDim S100000 ![] bcast_S_S100000 (constantI S_ 32 0#32)))
    (addi ids (broadcastInDim S100000 ![] bcast_S_S100000 (constantI S_ 32 256#32))) ids

/-- The segments' sums of the weights `w`. -/
def sums (ids : IVec S100000 32) (w : FVec Ideal S100000 .f32) : FVec Ideal S256 .f32 :=
  Host.scatterAdd scatter_S256_S100000x1_S100000_n_0_0_1 (broadcastInDim S256 ![] bcast_S_S256 (constant S_ .f32 0x00000000#32)) (column ids) w

/-- The weights divided by their segments' sums `D`. -/
def shares (ids : IVec S100000 32) (w : FVec Ideal S100000 .f32) (D : FVec Ideal S256 .f32) : FVec Ideal S100000 .f32 :=
  Host.divf w (addf (Host.gather gather_S256_S100000x1_S100000_n_0_n_n_0_1_1 D (column (wrapped ids)))
    (broadcastInDim S100000 ![] bcast_S_S100000 (constant S_ .f32 0x24E69595#32)))

/-- The segments' sums of the rows `f` weighted by `a`. -/
def pool (ids : IVec S100000 32) (a : FVec Ideal S100000 .f32) (f : FVec Ideal S100000x128 .f32) : FVec Ideal S256x128 .f32 :=
  Host.scatterAdd scatter_S256x128_S100000x1_S100000x128_1_0_0_1 (broadcastInDim S256x128 ![] bcast_S_S256x128 (constant S_ .f32 0x00000000#32))
    (column ids) (mulf (broadcastInDim S100000x128 ![0, 1] bcast_S100000x1_S100000x128_0_1 (broadcastInDim S100000x1 ![0] bcast_S100000_S100000x1_0 a)) f)

/-- The output transform of the pooled rows `p` beside the previous rows. -/
def mix (p prev : FVec Ideal S256x128 .f32) (tw : FVec Ideal S256x128 .f32) (tb : FVec Ideal S128 .f32) : FVec Ideal S256x128 .f32 :=
  addf (Host.dotGeneral dot_S256x256_S256x128_S256x128_1_0_0_1_n_n none
      (concatenate S256x256 1 [⟨S256x128, p⟩, ⟨S256x128, prev⟩] concatenates_S256x128_S256x128_S256x256_d1) tw)
    (broadcastInDim S256x128 ![0, 1] bcast_S1x128_S256x128_0_1 (broadcastInDim S1x128 ![1] bcast_S128_S1x128_1 tb))

/-- The leaky step on the output rows, and the previous rows added. -/
def finish (h prev : FVec Ideal S256x128 .f32) : FVec Ideal S256x128 .f32 :=
  addf (select (cmpf .oge h (broadcastInDim S256x128 ![] bcast_S_S256x128 (constant S_ .f32 0x00000000#32))) h
    (mulf (broadcastInDim S256x128 ![] bcast_S_S256x128 (id (constant S_ .f32 0x3C23D70A#32))) h)) prev

variable (m : (ℓ : Loc nD τ sig) → Buf (Elt Ideal) ℓ) (c : Dev nD)

/-! The arguments, named as in the reference. -/

/-- The previous row of each segment. -/
abbrev argPrev : FVec Ideal S256x128 .f32 := m ((c : Thread nD τ).loc main_arg0)
/-- The nodes' rows. -/
abbrev argX : FVec Ideal S100000x128 .f32 := m ((c : Thread nD τ).loc main_arg1)
/-- The nodes' segment ids. -/
abbrev argIds : IVec S100000 32 := m ((c : Thread nD τ).loc main_arg2)
/-- The gate's column. -/
abbrev argGate : FVec Ideal S128x1 .f32 := m ((c : Thread nD τ).loc main_arg3)
/-- The gate's bias. -/
abbrev argGateBias : FVec Ideal S1 .f32 := m ((c : Thread nD τ).loc main_arg4)
/-- The feature transform. -/
abbrev argFeat : FVec Ideal S128x128 .f32 := m ((c : Thread nD τ).loc main_arg5)
/-- The features' bias. -/
abbrev argFeatBias : FVec Ideal S128 .f32 := m ((c : Thread nD τ).loc main_arg6)
/-- The output transform. -/
abbrev argOut : FVec Ideal S256x128 .f32 := m ((c : Thread nD τ).loc main_arg7)
/-- The output transform's bias. -/
abbrev argBias : FVec Ideal S128 .f32 := m ((c : Thread nD τ).loc main_arg8)

/-- The printed result is the stages composed. -/
theorem res_eq : res_main_v36 m c = (let w := weights (argX m c) (argGate m c) (argGateBias m c)
    finish (mix (pool (argIds m c) (shares (argIds m c) w (sums (argIds m c) w)) (leakyRows (rows (argX m c) (argFeat m c) (argFeatBias m c))))
      (argPrev m c) (argOut m c) (argBias m c)) (argPrev m c)) := rfl

/-! ## The stages at an index -/

/-- A node's weight is the exponential of its row against the gate, and the gate's bias. -/
theorem weights_at (x : FVec Ideal S100000x128 .f32) (gw : FVec Ideal S128x1 .f32) (gb : FVec Ideal S1 .f32) (n : Fin 100000) :
    weights x gw gb (ix1 n) = Ideal.exp (∑ k, x (ix2 n k) * gw (ix2 k 0) + gb (ix1 0)) := by
  pointwise [weights]

/-- A node's row transformed, and the bias. -/
theorem rows_at (x : FVec Ideal S100000x128 .f32) (fw : FVec Ideal S128x128 .f32) (fb : FVec Ideal S128 .f32) (n : Fin 100000) (l : Fin 128) :
    rows x fw fb (ix2 n l) = ∑ k, x (ix2 n k) * fw (ix2 k l) + fb (ix1 l) := by
  pointwise [rows]

/-- A negative entry is scaled by the hundredth. -/
theorem leakyRows_at (h : FVec Ideal S100000x128 .f32) (n : Fin 100000) (l : Fin 128) :
    leakyRows h (ix2 n l) = (if 0 ≤ h (ix2 n l) then h (ix2 n l) else Ideal.ofBits .f32 0x3C23D70A#32 * h (ix2 n l)) := by
  pointwise [leakyRows]
  rfl

/-- The ids as a column. -/
theorem column_at (ids : IVec S100000 32) (n : Fin 100000) : column ids (ix2 n 0) = ids (ix1 n) := by
  pointwise [column]

/-- An id below 256 is not negative, so it is kept. -/
theorem wrapped_at (ids : IVec S100000 32) (n : Fin 100000) (h : (ids (ix1 n)).toNat < 256) : wrapped ids (ix1 n) = ids (ix1 n) := by
  pointwise [wrapped]
  exact Routing.wrap_of_lt _ _ (Nat.lt_of_lt_of_le h (by decide))

/-- The sum of the weights over a segment. -/
theorem sums_at (ids : IVec S100000 32) (w : FVec Ideal S100000 .f32) (g : Fin 256) :
    sums ids w (ix1 g) = segSum (fun n => ids (ix1 n)) (segWord g) fun n => w (ix1 n) := by
  unfold sums
  rw [scatter1 _ (fun j => by pointwise)]
  simp only [column_at]

/-- A node's weight divided by its segment's sum and the small constant. -/
theorem shares_at (ids : IVec S100000 32) (w : FVec Ideal S100000 .f32) (D : FVec Ideal S256 .f32) (n : Fin 100000) (g : Fin 256)
    (h : ids (ix1 n) = segWord g) :
    shares ids w D (ix1 n) = Ideal.div (w (ix1 n)) (D (ix1 g) + Ideal.ofBits .f32 0x24E69595#32) := by
  have hw : column (wrapped ids) (ix2 n 0) = segWord g := by
    rw [column_at, wrapped_at _ _ (by rw [h, BitVec.toNat_ofNat]; have := g.isLt; omega), h]
  have e := gather1 D (column (wrapped ids)) n g hw
  unfold shares
  generalize Host.gather gather_S256_S100000x1_S100000_n_0_n_n_0_1_1 D (column (wrapped ids)) = G at e
  pointwise
  rw [e]

/-- The sum over a segment of the rows, each by its node's share. -/
theorem pool_at (ids : IVec S100000 32) (a : FVec Ideal S100000 .f32) (f : FVec Ideal S100000x128 .f32) (g : Fin 256) (l : Fin 128) :
    pool ids a f (ix2 g l) = segSum (fun n => ids (ix1 n)) (segWord g) fun n => a (ix1 n) * f (ix2 n l) := by
  unfold pool
  rw [scatter2 _ (fun j => by pointwise)]
  simp only [column_at]
  refine congrArg (segSum _ _) (funext fun n => ?_)
  pointwise

/-- The joined rows transformed: the pooled rows by the transform's upper half, the previous by its lower. -/
theorem mix_at (p prev : FVec Ideal S256x128 .f32) (tw : FVec Ideal S256x128 .f32) (tb : FVec Ideal S128 .f32) (g : Fin 256) (l : Fin 128) :
    mix p prev tw tb (ix2 g l) = (∑ k : Fin 128, p (ix2 g k) * tw (ix2 (Fin.castLE (by decide) k) l)
      + ∑ k : Fin 128, prev (ix2 g k) * tw (ix2 (Fin.natAdd 128 k) l)) + tb (ix1 l) := by
  pointwise [mix]
  rfl

/-- The leaky step, then the previous rows added. -/
theorem finish_at (h prev : FVec Ideal S256x128 .f32) (g : Fin 256) (l : Fin 128) :
    finish h prev (ix2 g l) = (if 0 ≤ h (ix2 g l) then h (ix2 g l) else Ideal.ofBits .f32 0x3C23D70A#32 * h (ix2 g l)) + prev (ix2 g l) := by
  pointwise [finish]
  rfl

end Cert.ReferenceIdeal.Value

end
-- ==== Proof.Value.Equation.lean ====
/- The equation between the two orders of the work: the kernel divides each segment's weighted sum once, the reference
   divides every node's weight; and between the two ways of writing the leaky step. -/
module

public import proofs.«01_k».proof.Proof.Value.Spec
public import Idealize.ShloMosaic.PureOps.Ideal.Laws

@[expose] public section

noncomputable section

namespace Cert.Value

open Idealize.ShloMosaic

/-- The leaky step's slope is between zero and one. -/
theorem slope_bounds : 0 ≤ Ideal.ofBits .f32 0x3C23D70A#32 ∧ Ideal.ofBits .f32 0x3C23D70A#32 ≤ 1 := by
  have e : Ideal.ofBits .f32 0x3C23D70A#32 = ((10737418 / 2 ^ 30 : ℝ) : EReal) := by
    simp [Ideal.ofBits, Ideal.ieee, -EReal.coe_mul]; norm_num
  rw [e]
  constructor
  · exact EReal.coe_nonneg.2 (by norm_num)
  · rw [← EReal.coe_one]; exact EReal.coe_le_coe_iff.2 (by norm_num)

/-- The number added to a segment's sum is positive. -/
theorem eps_pos : 0 < Ideal.ofBits .f32 0x24E69595#32 := by
  simp [Ideal.ofBits, Ideal.ieee, -EReal.coe_mul]

/-- The larger of a number and its hundredth is the number where it is not negative, its hundredth elsewhere. -/
theorem leaky_eq (h : EReal) : leaky h = if 0 ≤ h then h else Ideal.ofBits .f32 0x3C23D70A#32 * h := by
  obtain ⟨c0, c1⟩ := slope_bounds
  unfold leaky
  generalize Ideal.ofBits .f32 0x3C23D70A#32 = s at *
  have shrink : ∀ x : EReal, 0 ≤ x → s * x ≤ x := fun x hx =>
    (mul_le_mul_of_nonneg_right c1 hx).trans (le_of_eq (one_mul x))
  split_ifs with hh
  · exact max_eq_left (shrink h hh)
  · have e := shrink (-h) (EReal.neg_nonneg.2 (le_of_lt (not_le.1 hh)))
    rw [mul_neg] at e
    exact max_eq_right (EReal.neg_le_neg_iff.1 e)

/-- A sum times a factor that is neither negative nor infinite is the sum of the products. -/
theorem sum_mul {ι : Type} (s : Finset ι) (v : ι → EReal) (r : EReal) (h0 : 0 ≤ r) (ht : r ≠ ⊤) :
    (∑ n ∈ s, v n) * r = ∑ n ∈ s, v n * r := by
  classical
  induction s using Finset.induction_on with
  | empty => simp
  | insert a s ha ih =>
    rw [Finset.sum_insert ha, Finset.sum_insert ha, EReal.right_distrib_of_nonneg_of_ne_top h0 ht, ih]

/-- An exponential is not negative. -/
theorem exp_nonneg (x : EReal) : 0 ≤ Ideal.exp x := by
  induction x using EReal.rec with
  | bot => exact le_refl _
  | top => exact le_top
  | coe a => exact EReal.coe_nonneg.2 (Real.exp_pos a).le

/-- A segment's sum of weights is not negative. -/
theorem segSum_nonneg {N : ℕ} (ids : Fin N → BitVec 32) (G : BitVec 32) (v : Fin N → EReal) (hv : ∀ n, 0 ≤ v n) : 0 ≤ segSum ids G v :=
  Finset.sum_nonneg fun n _ => by split_ifs; exacts [hv n, le_refl _]

/-- What a segment's weights are divided by is positive. -/
theorem denom_pos (A : Args) (g : Fin 256) : 0 < A.denom g :=
  lt_of_lt_of_le eps_pos (le_add_of_nonneg_left (segSum_nonneg _ _ _ fun n => exp_nonneg _))

/-- Dividing a segment's weighted sum is summing with the weights divided. -/
theorem div_segSum {N : ℕ} (ids : Fin N → BitVec 32) (G : BitVec 32) (e f : Fin N → EReal) (y : EReal) (hy : 0 < y) :
    Ideal.div (segSum ids G fun n => e n * f n) y = segSum ids G fun n => Ideal.div (e n) y * f n := by
  have hr0 : 0 ≤ y⁻¹ := EReal.inv_nonneg_of_nonneg hy.le
  have hrt : y⁻¹ ≠ ⊤ := by
    induction y using EReal.rec with
    | bot => simp
    | top => simp
    | coe a => rw [← EReal.coe_inv]; exact EReal.coe_ne_top _
  have hd : ∀ x, Ideal.div x y = x * y⁻¹ := fun x => if_neg hy.ne'
  simp only [hd]
  unfold segSum
  rw [sum_mul _ _ _ hr0 hrt]
  refine Finset.sum_congr rfl fun n _ => ?_
  split_ifs
  · exact mul_right_comm _ _ _
  · exact zero_mul _

end Cert.Value

end
-- ==== Proof.Value.Agree.lean ====
/- The reference computes the layer's result, when its two biases are zero. -/
module

public import proofs.«01_k».proof.Proof.Value.Reference
public import proofs.«01_k».proof.Proof.Value.Equation

@[expose] public section

set_option maxRecDepth 16384

noncomputable section

namespace Cert.ReferenceIdeal.Value

open Idealize.ShloMosaic Idealize.ShloMosaic.TcCoe
open Cert.ReferenceIdeal Cert.ReferenceIdeal.Gen
open Cert.Value (segSum segWord Args)

variable (m : (ℓ : Loc nD τ sig) → Buf (Elt Ideal) ℓ) (c : Dev nD)

/-- The arrays as launched. -/
def args : Args where
  ids n := argIds m c (ix1 n)
  x n k := argX m c (ix2 n k)
  prev g k := argPrev m c (ix2 g k)
  gate k := argGate m c (ix2 k 0)
  feat k l := argFeat m c (ix2 k l)
  trans k l := argOut m c (ix2 k l)
  bias l := argBias m c (ix1 l)

/-- The weights are the layer's. -/
theorem weights_eq (hg : argGateBias m c (ix1 0) = 0) (n : Fin 100000) :
    weights (argX m c) (argGate m c) (argGateBias m c) (ix1 n) = (args m c).weight n := by
  rw [weights_at, hg, add_zero]
  exact congrArg Ideal.exp (Finset.sum_congr rfl fun k _ => mul_comm _ _)

/-- The features are the layer's. -/
theorem features_eq (hf : ∀ l, argFeatBias m c (ix1 l) = 0) (n : Fin 100000) (l : Fin 128) :
    leakyRows (rows (argX m c) (argFeat m c) (argFeatBias m c)) (ix2 n l) = (args m c).feature n l := by
  rw [leakyRows_at, ← Cert.Value.leaky_eq, rows_at, hf, add_zero]
  rfl

/-- The pooled rows are the layer's: each node's weight divided, then summed. -/
theorem pooled_eq (hg : argGateBias m c (ix1 0) = 0) (hf : ∀ l, argFeatBias m c (ix1 l) = 0) (g : Fin 256) (l : Fin 128) :
    (let w := weights (argX m c) (argGate m c) (argGateBias m c)
     pool (argIds m c) (shares (argIds m c) w (sums (argIds m c) w)) (leakyRows (rows (argX m c) (argFeat m c) (argFeatBias m c)))) (ix2 g l)
      = (args m c).pooled g l := by
  unfold Args.pooled
  rw [Cert.Value.div_segSum _ _ _ _ _ (Cert.Value.denom_pos _ g), pool_at]
  refine Finset.sum_congr rfl fun n _ => ?_
  by_cases h : argIds m c (ix1 n) = segWord g
  · refine (if_pos h).trans (Eq.trans ?_ (if_pos h).symm)
    beta_reduce
    rw [shares_at _ _ _ n g h, sums_at, features_eq m c hf, weights_eq m c hg]
    simp only [weights_eq m c hg]
    rfl
  · exact (if_neg h).trans (if_neg h).symm

/-- The reference's result is the layer's. -/
theorem res_at (hg : argGateBias m c (ix1 0) = 0) (hf : ∀ l, argFeatBias m c (ix1 l) = 0) (g : Fin 256) (l : Fin 128) :
    (show FVec Ideal S256x128 .f32 from res_main_v36 m c) (ix2 g l) = (args m c).out g l := by
  show (show FVec Ideal S256x128 .f32 from res_main_v36 m c) (ix2 g l) = _
  rw [res_eq]
  show finish (mix _ _ _ _) _ (ix2 g l) = _
  rw [finish_at, ← Cert.Value.leaky_eq, mix_at]
  simp only [pooled_eq m c hg hf]
  rfl

/-- The reference's result as an array. -/
theorem res_eq_result (hg : argGateBias m c (ix1 0) = 0) (hf : ∀ l, argFeatBias m c (ix1 l) = 0) :
    res_main_v36 m c = (fun j => (args m c).out (j 0) (j 1) : FVec Ideal S256x128 .f32) := by
  funext j
  rw [← ix2_eta j]
  exact res_at m c hg hf (j 0) (j 1)

end Cert.ReferenceIdeal.Value

end
-- ==== Proof.Value.Pre.lean ====
/- What the precondition says: every node's segment is below 256, no node comes before one of an earlier segment, and the
   gate's and the features' biases are zero. -/
module

public import proofs.«01_k».proof.Defs
public import Idealize.ShloMosaic.Lib.Pointwise
public import Idealize.ShloMosaic.Lib.ReduceAll
public import Idealize.ShloMosaic.Lib.Affine

@[expose] public section

set_option maxRecDepth 16384

noncomputable section

namespace Cert.Pre_sorted_segments_zero_biases

open Idealize.ShloMosaic

/-- The side conditions of the precondition's operations hold. -/
theorem facts : Facts := by constructor <;> decide

variable [Facts]
open Facts

/-- The ids moved one node down, the first repeated. -/
def before (ids : IVec S100000 32) : IVec S100000 32 :=
  concatenate S100000 0 [⟨S1, extractStridedSlice S1 ![0] ids slices_S100000_S1_0⟩,
    ⟨S99999, extractStridedSlice S99999 ![0] ids slices_S100000_S99999_0⟩] concatenates_S1_S99999_S100000_d0

/-- Node `n + 1` has node `n`'s id before it. -/
theorem before_at (ids : IVec S100000 32) (n : Fin 100000) (h : n.val + 1 < 100000) : before ids (ix1 ⟨n.val + 1, h⟩) = ids (ix1 n) := by
  pointwise [before]
  rw [dif_neg (by omega)]
  rfl

/-- The precondition at node `n`, its conditions in the order of its text. -/
theorem fn_at {a0 : FVec Ideal S256x128 .f32} {a1 : FVec Ideal S100000x128 .f32} {ids : IVec S100000 32} {a3 : FVec Ideal S128x1 .f32}
    {gb : FVec Ideal S1 .f32} {a5 : FVec Ideal S128x128 .f32} {fb : FVec Ideal S128 .f32} {a7 : FVec Ideal S256x128 .f32} {a8 : FVec Ideal S128 .f32}
    (h : fn (F := Ideal) a0 a1 ids a3 gb a5 fb a7 a8 = fun _ => 1#1) (n : Fin 100000) :
    IntOp.cmpi .sge (ids (ix1 n)) 0#32 = 1#1 ∧ IntOp.cmpi .slt (ids (ix1 n)) 256#32 = 1#1
      ∧ IntOp.cmpi .sle (before ids (ix1 n)) (ids (ix1 n)) = 1#1 ∧ gb (ix1 0) = 0 ∧ ∀ l, fb (ix1 l) = 0 := by
  have e : IntOp.andi (IntOp.andi (IntOp.andi (IntOp.andi _ _) _) _) _ = 1#1 := congrFun h (ix1 n)
  obtain ⟨e, h5⟩ := IntOp.andi_eq_one.1 e
  obtain ⟨e, h4⟩ := IntOp.andi_eq_one.1 e
  obtain ⟨e, h3⟩ := IntOp.andi_eq_one.1 e
  obtain ⟨h1, h2⟩ := IntOp.andi_eq_one.1 e
  refine ⟨h1, h2, h3, ?_, fun l => ?_⟩
  · have q : broadcastInDim S100000 ![0] bcast_S1_S100000_0 (cmpf (F := Ideal) .oeq gb (broadcastInDim S1 ![] bcast_S_S1 (constant S_ .f32 0x00000000#32))) (ix1 n)
        = Ideal.cmp .oeq (gb (ix1 0)) 0 := by pointwise
    exact (Ideal.cmp_oeq_eq_one _ _).1 (q.symm.trans h4)
  · have r := Host.reduce_andi_all _ _ _ _ _ h5 (ix1 l)
    have q : cmpf (F := Ideal) .oeq fb (broadcastInDim S128 ![] bcast_S_S128 (constant S_ .f32 0x00000000#32)) (ix1 l)
        = Ideal.cmp .oeq (fb (ix1 l)) 0 := by pointwise
    exact (Ideal.cmp_oeq_eq_one _ _).1 (q.symm.trans r)

/-- A word that is at least zero and below 256 when read signed is so when read unsigned. -/
theorem toNat_lt (w : BitVec 32) (h1 : IntOp.cmpi .sge w 0#32 = 1#1) (h2 : IntOp.cmpi .slt w 256#32 = 1#1) : w.toNat < 256 := by
  rw [IntOp.cmpi_sge] at h1; rw [IntOp.cmpi_slt] at h2
  have e0 : (0#32 : BitVec 32).toInt = 0 := rfl
  have e1 : (256#32 : BitVec 32).toInt = 256 := rfl
  rw [e0] at h1; rw [e1] at h2
  rw [BitVec.toInt_eq_toNat_cond] at h1 h2
  have := w.isLt
  split_ifs at h1 h2 <;> omega

/-- The order of two words below 256. -/
theorem toNat_le (v w : BitVec 32) (hv : v.toNat < 256) (hw : w.toNat < 256) (h : IntOp.cmpi .sle v w = 1#1) : v.toNat ≤ w.toNat := by
  rw [IntOp.cmpi_sle, BitVec.toInt_eq_toNat_of_lt (by omega), BitVec.toInt_eq_toNat_of_lt (by omega)] at h
  omega

/-- Under the precondition the segments are numbered below 256 and the nodes come in the order of their segments. -/
theorem sorted {a0 : FVec Ideal S256x128 .f32} {a1 : FVec Ideal S100000x128 .f32} {ids : IVec S100000 32} {a3 : FVec Ideal S128x1 .f32}
    {gb : FVec Ideal S1 .f32} {a5 : FVec Ideal S128x128 .f32} {fb : FVec Ideal S128 .f32} {a7 : FVec Ideal S256x128 .f32} {a8 : FVec Ideal S128 .f32}
    (h : fn (F := Ideal) a0 a1 ids a3 gb a5 fb a7 a8 = fun _ => 1#1) :
    (∀ n, (ids (ix1 n)).toNat < 256) ∧ ∀ n n' : Fin 100000, n ≤ n' → (ids (ix1 n)).toNat ≤ (ids (ix1 n')).toNat := by
  have hr : ∀ n, (ids (ix1 n)).toNat < 256 := fun n => toNat_lt _ (fn_at h n).1 (fn_at h n).2.1
  refine ⟨hr, fun n n' hle => ?_⟩
  have step : ∀ (k : ℕ) (hk : n.val + k < 100000), (ids (ix1 n)).toNat ≤ (ids (ix1 ⟨n.val + k, hk⟩)).toNat := by
    intro k
    induction k with
    | zero => intro _; exact Nat.le_refl _
    | succ k ih =>
      intro hk
      have hb := before_at ids ⟨n.val + k, by omega⟩ hk
      have hs := (fn_at h ⟨n.val + k + 1, hk⟩).2.2.1
      rw [hb] at hs
      exact (ih (by omega)).trans (toNat_le _ _ (hr _) (hr _) hs)
  have hd : n.val + (n'.val - n.val) = n'.val := Nat.add_sub_cancel' hle
  have e := step (n'.val - n.val) (by rw [hd]; exact n'.isLt)
  exact e.trans (Nat.le_of_eq (congrArg (fun j : Fin 100000 => (ids (ix1 j)).toNat) (Fin.ext hd)))

/-- Under the precondition both biases are zero. -/
theorem biases {a0 : FVec Ideal S256x128 .f32} {a1 : FVec Ideal S100000x128 .f32} {ids : IVec S100000 32} {a3 : FVec Ideal S128x1 .f32}
    {gb : FVec Ideal S1 .f32} {a5 : FVec Ideal S128x128 .f32} {fb : FVec Ideal S128 .f32} {a7 : FVec Ideal S256x128 .f32} {a8 : FVec Ideal S128 .f32}
    (h : fn (F := Ideal) a0 a1 ids a3 gb a5 fb a7 a8 = fun _ => 1#1) : gb (ix1 0) = 0 ∧ ∀ l, fb (ix1 l) = 0 := (fn_at h 0).2.2.2

end Cert.Pre_sorted_segments_zero_biases

end
-- ==== Proof.lean ====
module

public import proofs.«01_k».proof.Defs
public import proofs.«01_k».proof.Proof.Gen.ReferenceIdeal
public import proofs.«01_k».proof.Proof.Gen.ReferenceIdeal.Run
public import proofs.«01_k».proof.Proof.Run.Launch
public import proofs.«01_k».proof.Proof.Value.Kernel
public import proofs.«01_k».proof.Proof.Value.Agree
public import proofs.«01_k».proof.Proof.Value.Pre
public import Idealize.ShloMosaic.Adequacy
public import Idealize.ShloMosaic.Init

@[expose] public section

noncomputable section

namespace Cert.Proof

open Idealize.ShloMosaic Idealize.SL.Sem

/-- The idealized reference runs to its end with its arguments unchanged; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

local instance : Cert.Pre_sorted_segments_zero_biases.Facts := Cert.Pre_sorted_segments_zero_biases.facts

/-- From memories that agree on the arguments, under the precondition, both programs compute the layer's result. -/
theorem value : Cert.algebraic_KernelIdeal_ReferenceIdeal_pre_sorted_segments_zero_biases := fun m ρ m' ρ' hpre heq => by
  have hs : ∀ c, (Cert.KernelIdeal.Value.args m c).Sorted := fun c => Cert.Pre_sorted_segments_zero_biases.sorted (hpre c)
  refine ⟨Cert.KernelIdeal.Value.result m, Cert.KernelIdeal.Value.run m ρ hs, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8⟩ := heq c
  obtain ⟨hg, hf⟩ := Cert.Pre_sorted_segments_zero_biases.biases (hpre c)
  have ha : Cert.ReferenceIdeal.Value.args m' c = Cert.KernelIdeal.Value.args m c := by
    unfold Cert.ReferenceIdeal.Value.args Cert.KernelIdeal.Value.args
    unfold Cert.ReferenceIdeal.Value.argIds Cert.ReferenceIdeal.Value.argX Cert.ReferenceIdeal.Value.argPrev
      Cert.ReferenceIdeal.Value.argGate Cert.ReferenceIdeal.Value.argFeat Cert.ReferenceIdeal.Value.argOut
      Cert.ReferenceIdeal.Value.argBias
    rw [e0, e1, e2, e3, e5, e7, e8]
  rw [Cert.ReferenceIdeal.Value.res_eq_result m' c ((congrFun e4 _).trans hg) (fun l => (congrFun e6 _).trans (hf l)), ha]
  rfl

/-- The claims hold. -/
theorem claim : Cert.Claim :=
  ⟨Cert.Kernel.Gen.facts, Cert.KernelIdeal.Gen.facts, Cert.ReferenceIdeal.Gen.facts, Cert.Pre_sorted_segments_zero_biases.facts,
    fun m ρ _ => Cert.Kernel.Run.frame m ρ, fun m ρ _ => Cert.KernelIdeal.Run.frame m ρ, fun m ρ _ => Cert.KernelIdeal.Run.frame m ρ,
    frame_reference, fun m ρ _ => frame_reference m ρ trivial, trivial, value⟩

end Cert.Proof

end
